-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x4096 : Shape := ⟨3, ![3, 4096, 4096]⟩
abbrev S4096x13696 : Shape := ⟨2, ![4096, 13696]⟩
abbrev S13696 : Shape := ⟨1, ![13696]⟩
abbrev S12288x4096 : Shape := ⟨2, ![12288, 4096]⟩
abbrev S1x13696 : Shape := ⟨2, ![1, 13696]⟩
abbrev S12288x1 : Shape := ⟨2, ![12288, 1]⟩
abbrev S12288x6848 : Shape := ⟨2, ![12288, 6848]⟩
abbrev S512x4096 : Shape := ⟨2, ![512, 4096]⟩
abbrev S4096x768 : Shape := ⟨2, ![4096, 768]⟩
abbrev S512x1 : Shape := ⟨2, ![512, 1]⟩
abbrev S512x6848 : Shape := ⟨2, ![512, 6848]⟩
abbrev S512x6912 : Shape := ⟨2, ![512, 6912]⟩
abbrev S512x128 : Shape := ⟨2, ![512, 128]⟩
abbrev S512 : Shape := ⟨1, ![512]⟩
abbrev S512x768 : Shape := ⟨2, ![512, 768]⟩
abbrev S1x128 : Shape := ⟨2, ![1, 128]⟩
abbrev S512x64 : Shape := ⟨2, ![512, 64]⟩

abbrev nBuf : Space → Nat
  | .hbm => 9
  | .vmem => 18
  | .smem => 0
  | _ => 0

abbrev bufTy : (tb : Table) → Fin (tcTables nBuf tb) → BufTy
  | .hbm, ⟨0, _⟩ => ⟨S3x4096x4096, .bf16⟩
  | .hbm, ⟨1, _⟩ => ⟨S4096x13696, .fp8e4m3⟩
  | .hbm, ⟨2, _⟩ => ⟨S13696, .f32⟩
  | .hbm, ⟨3, _⟩ => ⟨S12288x4096, .bf16⟩
  | .hbm, ⟨4, _⟩ => ⟨S1x13696, .f32⟩
  | .hbm, ⟨5, _⟩ => ⟨S12288x1, .f32⟩
  | .hbm, ⟨6, _⟩ => ⟨S12288x6848, .fp8e4m3⟩
  | .hbm, ⟨7, _⟩ => ⟨S12288x4096, .fp8e4m3⟩
  | .hbm, ⟨8, _⟩ => ⟨S12288x1, .f32⟩
  | .local _ .vmem, ⟨0, _⟩ => ⟨S512x4096, .bf16⟩
  | .local _ .vmem, ⟨1, _⟩ => ⟨S512x4096, .bf16⟩
  | .local _ .vmem, ⟨2, _⟩ => ⟨S4096x768, .fp8e4m3⟩
  | .local _ .vmem, ⟨3, _⟩ => ⟨S4096x768, .fp8e4m3⟩
  | .local _ .vmem, ⟨4, _⟩ => ⟨S4096x768, .fp8e4m3⟩
  | .local _ .vmem, ⟨5, _⟩ => ⟨S4096x768, .fp8e4m3⟩
  | .local _ .vmem, ⟨6, _⟩ => ⟨S1x13696, .f32⟩
  | .local _ .vmem, ⟨7, _⟩ => ⟨S512x1, .f32⟩
  | .local _ .vmem, ⟨8, _⟩ => ⟨S512x1, .f32⟩
  | .local _ .vmem, ⟨9, _⟩ => ⟨S512x6848, .fp8e4m3⟩
  | .local _ .vmem, ⟨10, _⟩ => ⟨S512x6848, .fp8e4m3⟩
  | .local _ .vmem, ⟨11, _⟩ => ⟨S512x4096, .fp8e4m3⟩
  | .local _ .vmem, ⟨12, _⟩ => ⟨S512x4096, .fp8e4m3⟩
  | .local _ .vmem, ⟨13, _⟩ => ⟨S512x1, .f32⟩
  | .local _ .vmem, ⟨14, _⟩ => ⟨S512x1, .f32⟩
  | .local _ .vmem, ⟨15, _⟩ => ⟨S512x6912, .f32⟩
  | .local _ .vmem, ⟨16, _⟩ => ⟨S512x128, .f32⟩
  | .local _ .vmem, ⟨17, _⟩ => ⟨S512x128, .f32⟩
  | _, _ => ⟨S3x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![24, 9], ![false, false]⟩

def k0_mult1 (i : grid0.Coords) : BitVec 32 :=
  let arg1 : BitVec 32 := BitVec.ofNat 32 (i 1).val
  let c768_i32 : BitVec 32 := 768#32
  let v16 : BitVec 32 := Scalar.muli arg1 c768_i32
  let c0_i32_13 : BitVec 32 := 0#32
  let v17 : BitVec 32 := Scalar.addi v16 c0_i32_13
  v17
def k0_off1 (i : grid0.Coords) (c0_i32_13 : BitVec 32) : Fin 2 → Nat :=
  let c0_14 : Index := 0#32
  let arg1 : BitVec 32 := BitVec.ofNat 32 (i 1).val
  let c768_i32 : BitVec 32 := 768#32
  let v16 : BitVec 32 := Scalar.muli arg1 c768_i32
  let v17 : BitVec 32 := Scalar.addi v16 c0_i32_13
  let v18 : BitVec 32 := v17
  let v19 : Index := Scalar.indexCast v18
  ![0, v19.toNat]
def k0_mult2 (i : grid0.Coords) : BitVec 32 :=
  let c6784_i32 : BitVec 32 := 6784#32
  let arg1 : BitVec 32 := BitVec.ofNat 32 (i 1).val
  let c768_i32_15 : BitVec 32 := 768#32
  let v22 : BitVec 32 := Scalar.muli arg1 c768_i32_15
  let v23 : BitVec 32 := Scalar.addi c6784_i32 v22
  let c0_i32_16 : BitVec 32 := 0#32
  let v24 : BitVec 32 := Scalar.addi v23 c0_i32_16
  v24
def k0_off2 (i : grid0.Coords) (c0_i32_16 : BitVec 32) : Fin 2 → Nat :=
  let c0_17 : Index := 0#32
  let c6784_i32 : BitVec 32 := 6784#32
  let arg1 : BitVec 32 := BitVec.ofNat 32 (i 1).val
  let c768_i32_15 : BitVec 32 := 768#32
  let v22 : BitVec 32 := Scalar.muli arg1 c768_i32_15
  let v23 : BitVec 32 := Scalar.addi c6784_i32 v22
  let v24 : BitVec 32 := Scalar.addi v23 c0_i32_16
  let v25 : BitVec 32 := v24
  let v26 : Index := Scalar.indexCast v25
  ![0, v26.toNat]
def k0_mult3 (i : grid0.Coords) : BitVec 32 :=
  let arg1 : BitVec 32 := BitVec.ofNat 32 (i 1).val
  let c768_i32_21 : BitVec 32 := 768#32
  let v49 : BitVec 32 := Scalar.muli arg1 c768_i32_21
  let c0_i32_22 : BitVec 32 := 0#32
  let v50 : BitVec 32 := Scalar.addi v49 c0_i32_22
  v50
def k0_off3 (i : grid0.Coords) (c0_i32_22 : BitVec 32) : Fin 2 → Nat :=
  let c0_23 : Index := 0#32
  let arg1 : BitVec 32 := BitVec.ofNat 32 (i 1).val
  let c768_i32_21 : BitVec 32 := 768#32
  let v49 : BitVec 32 := Scalar.muli arg1 c768_i32_21
  let v50 : BitVec 32 := Scalar.addi v49 c0_i32_22
  let v51 : BitVec 32 := v50
  let v52 : Index := Scalar.indexCast v51
  ![0, v52.toNat]
def k0_mult4 (i : grid0.Coords) : BitVec 32 :=
  let arg1 : BitVec 32 := BitVec.ofNat 32 (i 1).val
  let c768_i32_24 : BitVec 32 := 768#32
  let v58 : BitVec 32 := Scalar.muli arg1 c768_i32_24
  let c128_i32 : BitVec 32 := 128#32
  let v59 : BitVec 32 := Scalar.addi v58 c128_i32
  v59
def k0_mult5 (i : grid0.Coords) : BitVec 32 :=
  let c6784_i32_27 : BitVec 32 := 6784#32
  let arg1 : BitVec 32 := BitVec.ofNat 32 (i 1).val
  let c768_i32_26 : BitVec 32 := 768#32
  let v64 : BitVec 32 := Scalar.muli arg1 c768_i32_26
  let v65 : BitVec 32 := Scalar.addi c6784_i32_27 v64
  let c128_i32_28 : BitVec 32 := 128#32
  let v66 : BitVec 32 := Scalar.addi v65 c128_i32_28
  v66
def k0_mult6 (i : grid0.Coords) : BitVec 32 :=
  let arg1 : BitVec 32 := BitVec.ofNat 32 (i 1).val
  let c768_i32_31 : BitVec 32 := 768#32
  let v86 : BitVec 32 := Scalar.muli arg1 c768_i32_31
  let c128_i32_32 : BitVec 32 := 128#32
  let v87 : BitVec 32 := Scalar.addi v86 c128_i32_32
  v87
def k0_mult7 (i : grid0.Coords) : BitVec 32 :=
  let arg1 : BitVec 32 := BitVec.ofNat 32 (i 1).val
  let c768_i32_34 : BitVec 32 := 768#32
  let v95 : BitVec 32 := Scalar.muli arg1 c768_i32_34
  let c256_i32 : BitVec 32 := 256#32
  let v96 : BitVec 32 := Scalar.addi v95 c256_i32
  v96
def k0_mult8 (i : grid0.Coords) : BitVec 32 :=
  let c6784_i32_37 : BitVec 32 := 6784#32
  let arg1 : BitVec 32 := BitVec.ofNat 32 (i 1).val
  let c768_i32_36 : BitVec 32 := 768#32
  let v101 : BitVec 32 := Scalar.muli arg1 c768_i32_36
  let v102 : BitVec 32 := Scalar.addi c6784_i32_37 v101
  let c256_i32_38 : BitVec 32 := 256#32
  let v103 : BitVec 32 := Scalar.addi v102 c256_i32_38
  v103
def k0_mult9 (i : grid0.Coords) : BitVec 32 :=
  let arg1 : BitVec 32 := BitVec.ofNat 32 (i 1).val
  let c768_i32_41 : BitVec 32 := 768#32
  let v123 : BitVec 32 := Scalar.muli arg1 c768_i32_41
  let c256_i32_42 : BitVec 32 := 256#32
  let v124 : BitVec 32 := Scalar.addi v123 c256_i32_42
  v124
def k0_mult10 (i : grid0.Coords) : BitVec 32 :=
  let arg1 : BitVec 32 := BitVec.ofNat 32 (i 1).val
  let c768_i32_44 : BitVec 32 := 768#32
  let v132 : BitVec 32 := Scalar.muli arg1 c768_i32_44
  let c384_i32 : BitVec 32 := 384#32
  let v133 : BitVec 32 := Scalar.addi v132 c384_i32
  v133
def k0_mult11 (i : grid0.Coords) : BitVec 32 :=
  let c6784_i32_47 : BitVec 32 := 6784#32
  let arg1 : BitVec 32 := BitVec.ofNat 32 (i 1).val
  let c768_i32_46 : BitVec 32 := 768#32
  let v138 : BitVec 32 := Scalar.muli arg1 c768_i32_46
  let v139 : BitVec 32 := Scalar.addi c6784_i32_47 v138
  let c384_i32_48 : BitVec 32 := 384#32
  let v140 : BitVec 32 := Scalar.addi v139 c384_i32_48
  v140
def k0_mult12 (i : grid0.Coords) : BitVec 32 :=
  let arg1 : BitVec 32 := BitVec.ofNat 32 (i 1).val
  let c768_i32_51 : BitVec 32 := 768#32
  let v160 : BitVec 32 := Scalar.muli arg1 c768_i32_51
  let c384_i32_52 : BitVec 32 := 384#32
  let v161 : BitVec 32 := Scalar.addi v160 c384_i32_52
  v161
def k0_mult13 (i : grid0.Coords) : BitVec 32 :=
  let arg1 : BitVec 32 := BitVec.ofNat 32 (i 1).val
  let c768_i32_54 : BitVec 32 := 768#32
  let v169 : BitVec 32 := Scalar.muli arg1 c768_i32_54
  let c512_i32 : BitVec 32 := 512#32
  let v170 : BitVec 32 := Scalar.addi v169 c512_i32
  v170
def k0_mult14 (i : grid0.Coords) : BitVec 32 :=
  let c6784_i32_57 : BitVec 32 := 6784#32
  let arg1 : BitVec 32 := BitVec.ofNat 32 (i 1).val
  let c768_i32_56 : BitVec 32 := 768#32
  let v175 : BitVec 32 := Scalar.muli arg1 c768_i32_56
  let v176 : BitVec 32 := Scalar.addi c6784_i32_57 v175
  let c512_i32_58 : BitVec 32 := 512#32
  let v177 : BitVec 32 := Scalar.addi v176 c512_i32_58
  v177
def k0_mult15 (i : grid0.Coords) : BitVec 32 :=
  let arg1 : BitVec 32 := BitVec.ofNat 32 (i 1).val
  let c768_i32_61 : BitVec 32 := 768#32
  let v197 : BitVec 32 := Scalar.muli arg1 c768_i32_61
  let c512_i32_62 : BitVec 32 := 512#32
  let v198 : BitVec 32 := Scalar.addi v197 c512_i32_62
  v198
def k0_mult16 (i : grid0.Coords) : BitVec 32 :=
  let arg1 : BitVec 32 := BitVec.ofNat 32 (i 1).val
  let c768_i32_64 : BitVec 32 := 768#32
  let v206 : BitVec 32 := Scalar.muli arg1 c768_i32_64
  let c640_i32 : BitVec 32 := 640#32
  let v207 : BitVec 32 := Scalar.addi v206 c640_i32
  v207
def k0_mult17 (i : grid0.Coords) : BitVec 32 :=
  let c6784_i32_67 : BitVec 32 := 6784#32
  let arg1 : BitVec 32 := BitVec.ofNat 32 (i 1).val
  let c768_i32_66 : BitVec 32 := 768#32
  let v212 : BitVec 32 := Scalar.muli arg1 c768_i32_66
  let v213 : BitVec 32 := Scalar.addi c6784_i32_67 v212
  let c640_i32_68 : BitVec 32 := 640#32
  let v214 : BitVec 32 := Scalar.addi v213 c640_i32_68
  v214
def k0_mult18 (i : grid0.Coords) : BitVec 32 :=
  let arg1 : BitVec 32 := BitVec.ofNat 32 (i 1).val
  let c768_i32_71 : BitVec 32 := 768#32
  let v234 : BitVec 32 := Scalar.muli arg1 c768_i32_71
  let c640_i32_72 : BitVec 32 := 640#32
  let v235 : BitVec 32 := Scalar.addi v234 c640_i32_72
  v235
def k0_cond2 (i : grid0.Coords) : BitVec 1 :=
  let arg1 : BitVec 32 := BitVec.ofNat 32 (i 1).val
  let c8_i32 : BitVec 32 := 8#32
  let v249 : BitVec 1 := Scalar.cmpi .eq arg1 c8_i32
  let v250 : BitVec 32 := Scalar.extui v249
  let c0_i32_78 : BitVec 32 := 0#32
  let v251 : BitVec 1 := Scalar.cmpi .ne v250 c0_i32_78
  v251

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg1 c6_i32
  let c53_i32 : BitVec 32 := 53#32
  let v1 : BitVec 32 := Scalar.addi c53_i32 v0
  let c128_i32 : BitVec 32 := 128#32
  let v2 : BitVec 32 := Scalar.muli v1 c128_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x13696 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x6848 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S3x4096x4096 : Shape := ⟨3, ![3, 4096, 4096]⟩
abbrev S4096x13696 : Shape := ⟨2, ![4096, 13696]⟩
abbrev S13696 : Shape := ⟨1, ![13696]⟩
abbrev S12288x4096 : Shape := ⟨2, ![12288, 4096]⟩
abbrev S1x13696 : Shape := ⟨2, ![1, 13696]⟩
abbrev S12288x1 : Shape := ⟨2, ![12288, 1]⟩
abbrev S12288x6848 : Shape := ⟨2, ![12288, 6848]⟩
abbrev S12288 : Shape := ⟨1, ![12288]⟩
abbrev S12288x13696 : Shape := ⟨2, ![12288, 13696]⟩

abbrev nBuf : Space → Nat
  | .hbm => 9
  | .vmem => 7
  | .smem => 0
  | _ => 0

abbrev bufTy : (tb : Table) → Fin (tcTables nBuf tb) → BufTy
  | .hbm, ⟨0, _⟩ => ⟨S3x4096x4096, .bf16⟩
  | .hbm, ⟨1, _⟩ => ⟨S4096x13696, .fp8e4m3⟩
  | .hbm, ⟨2, _⟩ => ⟨S13696, .f32⟩
  | .hbm, ⟨3, _⟩ => ⟨S12288x4096, .bf16⟩
  | .hbm, ⟨4, _⟩ => ⟨S1x13696, .f32⟩
  | .hbm, ⟨5, _⟩ => ⟨S12288x1, .f32⟩
  | .hbm, ⟨6, _⟩ => ⟨S12288x6848, .fp8e4m3⟩
  | .hbm, ⟨7, _⟩ => ⟨S12288x4096, .fp8e4m3⟩
  | .hbm, ⟨8, _⟩ => ⟨S12288x1, .f32⟩
  | .local _ .vmem, ⟨0, _⟩ => ⟨S12288x4096, .bf16⟩
  | .local _ .vmem, ⟨1, _⟩ => ⟨S4096x13696, .fp8e4m3⟩
  | .local _ .vmem, ⟨2, _⟩ => ⟨S1x13696, .f32⟩
  | .local _ .vmem, ⟨3, _⟩ => ⟨S12288x1, .f32⟩
  | .local _ .vmem, ⟨4, _⟩ => ⟨S12288x6848, .fp8e4m3⟩
  | .local _ .vmem, ⟨5, _⟩ => ⟨S12288x4096, .fp8e4m3⟩
  | .local _ .vmem, ⟨6, _⟩ => ⟨S12288x1, .f32⟩
  | _, _ => ⟨S3x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12288x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x13696 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13696 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x6848 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRuns.lean ====
/- The body of the low-precision kernel at any grid point, for its frame: the branch conditions in closed form over the
   points, and the triple of the body in each of its three cases, every buffer but the inputs at some contents. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first branch: the column tile is the first one. -/
abbrev cond0_0 (i : grid0.Coords) : Prop := k0_cond1 i = 1#1
/-- It holds at the points ≡ 0 (mod 9). -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-- The condition of the body's second branch: the column tile is the last one. -/
abbrev cond0_1 (i : grid0.Coords) : Prop := k0_cond2 i = 1#1
/-- It holds at the points ≡ 8 (mod 9). -/
theorem hcond0_1 : ∀ t : Fin cfg0.N, cond0_1 (grid0.coords t) ↔ t.val % 9 = 8 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 8)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-! Each window's current staging memref at point `t`, and its wholeness; then the three scratch buffers. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x768 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x13696 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x6848 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev scM0_0 : Memref sig .tc .vmem S512x6912 .f32 := Memref.whole cc0_scratch0
abbrev scM0_1 : Memref sig .tc .vmem S512x128 .f32 := Memref.whole cc0_scratch1
abbrev scM0_2 : Memref sig .tc .vmem S512x128 .f32 := Memref.whole cc0_scratch2

/-- The class's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1600000 in
/-- The body's triple at the first column tile of a row block: from the inputs' buffers at their contents and every other buffer at some
    contents it runs to the end, the inputs' buffers as they were and every other buffer at some contents. -/
theorem run_A (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part1_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1600000 in
/-- The body's triple at a column tile that is neither the first nor the last: from the inputs' buffers at their contents and every other buffer at some
    contents it runs to the end, the inputs' buffers as they were and every other buffer at some contents. -/
theorem run_B (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1600000 in
/-- The body's triple at the last column tile of a row block: from the inputs' buffers at their contents and every other buffer at some
    contents it runs to the end, the inputs' buffers as they were and every other buffer at some contents. -/
theorem run_C (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part21_eq_skeleton, k0_part22_eq_skeleton, k0_part23_eq_skeleton, k0_part24_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.Kernel.Body

end
-- ==== Proof.KernelFrame.lean ====
/- The frame of the low-precision kernel: every run ends, the argument arrays as they were and every semaphore
   counter at zero. Nothing is stated of what the kernel computes. -/
module

public import proofs.«01_k».proof.Proof.KernelRuns
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows: nothing reads what the kernel leaves in them, so nothing of it is named. -/
def forgets0 : Fin 8 → Bool := fun w => w.val == 4 || w.val == 5 || w.val == 6 || w.val == 7

/-- The proof data of the pipeline: the arrays as the region finds them, each input's buffer at its block after the
    body, the outputs unnamed, the scratch buffers at some contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves in each input's buffer, and what it finds there: the block. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- The body at any point, whichever case the point is in. -/
theorem run_any (c : Dev nD) (t : Fin cfg0.N) (E : Set ℕ) (K : PUnit → sProp 𝕄)
    (x0 : Vec F S512x4096 .bf16) (x1 : Vec F S4096x768 .fp8e4m3) (x2 : Vec F S4096x768 .fp8e4m3) (x3 : Vec F S1x13696 .f32) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d)
      ∗ (∃ d, owns (c : Thread nD τ) scM0_0 fullShare d) ∗ (∃ d, owns (c : Thread nD τ) scM0_1 fullShare d) ∗ (∃ d, owns (c : Thread nD τ) scM0_2 fullShare d)
      ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d)
      ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := F)) Variants.none c none) E (bodyAt0 t) K := by
  unfold bodyAt0
  by_cases h0 : t.val % 9 = 0
  · exact run_A c (grid0.coords t) _ _ _ _ _ _ _ _ _ _ _ _ _ _ _ _ _ _ _ _ _ _ ((hcond0_0 t).mpr h0) (fun h => absurd ((hcond0_1 t).mp h) (by omega)) x0 x1 x2 x3 E K
  · by_cases h1 : t.val % 9 = 8
    · exact run_C c (grid0.coords t) _ _ _ _ _ _ _ _ _ _ _ _ _ _ _ _ _ _ _ _ _ _ (fun h => h0 ((hcond0_0 t).mp h)) ((hcond0_1 t).mpr h1) x0 x1 x2 x3 E K
    · exact run_B c (grid0.coords t) _ _ _ _ _ _ _ _ _ _ _ _ _ _ _ _ _ _ _ _ _ _ (fun h => h0 ((hcond0_0 t).mp h)) (fun h => h1 ((hcond0_1 t).mp h)) x0 x1 x2 x3 E K

set_option maxHeartbeats 1600000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨HS0, HS1, HS2⟩, Hg⟩, Ho, ⟨%d0, H0⟩, ⟨%d1, H1⟩, ⟨%d2, H2⟩, ⟨%d3, H3⟩, H4, H5, H6, H7⟩
  iapply (run_any c t Set.univ _ (iblk m c 0 t) (X0_1 m c t) (iblk m c 2 t) (iblk m c 3 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- The invariant after the last point is what the region gives back. -/
theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch: every run ends, every input array as it was and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c)⟩) (run_main m ρ)

/-- The frame of the kernel: every run ends, the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Body

end
-- ==== Proof.KernelIdealRuns.lean ====
/- The body of the low-precision kernel at any grid point, for its frame: the branch conditions in closed form over the
   points, and the triple of the body in each of its three cases, every buffer but the inputs at some contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first branch: the column tile is the first one. -/
abbrev cond0_0 (i : grid0.Coords) : Prop := k0_cond1 i = 1#1
/-- It holds at the points ≡ 0 (mod 9). -/
theorem hcond0_0 : ∀ t : Fin cfg0.N, cond0_0 (grid0.coords t) ↔ t.val % 9 = 0 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-- The condition of the body's second branch: the column tile is the last one. -/
abbrev cond0_1 (i : grid0.Coords) : Prop := k0_cond2 i = 1#1
/-- It holds at the points ≡ 8 (mod 9). -/
theorem hcond0_1 : ∀ t : Fin cfg0.N, cond0_1 (grid0.coords t) ↔ t.val % 9 = 8 :=
  (fun t => by
    have ht : t.val < 216 := Nat.lt_of_lt_of_eq t.isLt N_0
    have e0 : (grid0.coords t 0).val = t.val / 9 % 24 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 8)

/-- The input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-! Each window's current staging memref at point `t`, and its wholeness; then the three scratch buffers. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x768 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x768 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x13696 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x6848 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev scM0_0 : Memref sig .tc .vmem S512x6912 .f32 := Memref.whole cc0_scratch0
abbrev scM0_1 : Memref sig .tc .vmem S512x128 .f32 := Memref.whole cc0_scratch1
abbrev scM0_2 : Memref sig .tc .vmem S512x128 .f32 := Memref.whole cc0_scratch2

/-- The class's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1600000 in
/-- The body's triple at the first column tile of a row block: from the inputs' buffers at their contents and every other buffer at some
    contents it runs to the end, the inputs' buffers as they were and every other buffer at some contents. -/
theorem run_A (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part1_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1600000 in
/-- The body's triple at a column tile that is neither the first nor the last: from the inputs' buffers at their contents and every other buffer at some
    contents it runs to the end, the inputs' buffers as they were and every other buffer at some contents. -/
theorem run_B (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part21_eq_skeleton, k0_part22_eq_skeleton, k0_part23_eq_skeleton, k0_part24_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1600000 in
/-- The body's triple at the last column tile of a row block: from the inputs' buffers at their contents and every other buffer at some
    contents it runs to the end, the inputs' buffers as they were and every other buffer at some contents. -/
theorem run_C (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  simp only [cc0_swiglu_gate_up_fp8_eq_skeleton]; unfold cc0_swiglu_gate_up_fp8_skel
  simp only [k0_part25_eq_skeleton, k0_part20_eq_skeleton, k0_part21_eq_skeleton, k0_part22_eq_skeleton, k0_part23_eq_skeleton, k0_part24_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

end Cert.KernelIdeal.Body

end
-- ==== Proof.KernelIdealFrame.lean ====
/- The frame of the low-precision kernel: every run ends, the argument arrays as they were and every semaphore
   counter at zero. Nothing is stated of what the kernel computes. -/
module

public import proofs.«01_k».proof.Proof.KernelIdealRuns
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows: nothing reads what the kernel leaves in them, so nothing of it is named. -/
def forgets0 : Fin 8 → Bool := fun w => w.val == 4 || w.val == 5 || w.val == 6 || w.val == 7

/-- The proof data of the pipeline: the arrays as the region finds them, each input's buffer at its block after the
    body, the outputs unnamed, the scratch buffers at some contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves in each input's buffer, and what it finds there: the block. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- The body at any point, whichever case the point is in. -/
theorem run_any (c : Dev nD) (t : Fin cfg0.N) (E : Set ℕ) (K : PUnit → sProp 𝕄)
    (x0 : Vec F S512x4096 .bf16) (x1 : Vec F S4096x768 .fp8e4m3) (x2 : Vec F S4096x768 .fp8e4m3) (x3 : Vec F S1x13696 .f32) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d)
      ∗ (∃ d, owns (c : Thread nD τ) scM0_0 fullShare d) ∗ (∃ d, owns (c : Thread nD τ) scM0_1 fullShare d) ∗ (∃ d, owns (c : Thread nD τ) scM0_2 fullShare d)
      ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3
      ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d)
      ∗ (∃ d, owns (c : Thread nD τ) scM0_0 fullShare d) ∗ (∃ d, owns (c : Thread nD τ) scM0_1 fullShare d) ∗ (∃ d, owns (c : Thread nD τ) scM0_2 fullShare d)) -∗ K ⟨⟩))
      ⊢ wp frame (wpE (defs₀ (F := F)) Variants.none c none) E (bodyAt0 t) K := by
  unfold bodyAt0
  by_cases h0 : t.val % 9 = 0
  · exact run_A c (grid0.coords t) _ _ _ _ _ _ _ _ _ _ _ _ _ _ _ _ _ _ _ _ _ _ ((hcond0_0 t).mpr h0) (fun h => absurd ((hcond0_1 t).mp h) (by omega)) x0 x1 x2 x3 E K
  · by_cases h1 : t.val % 9 = 8
    · exact run_C c (grid0.coords t) _ _ _ _ _ _ _ _ _ _ _ _ _ _ _ _ _ _ _ _ _ _ (fun h => h0 ((hcond0_0 t).mp h)) ((hcond0_1 t).mpr h1) x0 x1 x2 x3 E K
    · exact run_B c (grid0.coords t) _ _ _ _ _ _ _ _ _ _ _ _ _ _ _ _ _ _ _ _ _ _ (fun h => h0 ((hcond0_0 t).mp h)) (fun h => h1 ((hcond0_1 t).mp h)) x0 x1 x2 x3 E K

set_option maxHeartbeats 1600000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨HS0, HS1, HS2⟩, Hg⟩, Ho, ⟨%d0, H0⟩, ⟨%d1, H1⟩, ⟨%d2, H2⟩, ⟨%d3, H3⟩, H4, H5, H6, H7⟩
  iapply (run_any c t Set.univ _ (iblk m c 0 t) (X0_1 m c t) (iblk m c 2 t) (iblk m c 3 t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline library's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- The invariant after the last point is what the region gives back. -/
theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch: every run ends, every input array as it was and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((A_eq m c 2).trans (V_main_arg1 m c)),
      ((h c).2 main_arg2 (Pipeline.mem_restRefs_of main_arg2 (by decide) (by decide))).trans (V_main_arg2 m c)⟩) (run_main m ρ)

/-- The frame of the kernel: every run ends, the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.KernelIdealStep.lean ====
/- What one column tile of the body computes, as functions of the buffers it reads. -/
module

public import proofs.«01_k».proof.Proof.KernelIdealRuns
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load through a whole buffer held at the contents that read `X`. -/
theorem readAt_unread' {s : Shape} {e : EltTy} {κ : Kind} {sp : Space} {a : Memref sig κ sp s e} (h : a.IsWhole) (X : s.Idx → Elt F e) (r : Rect s) :
    View.readAt (Elt F) a.view r.toLoadRect (h.unread X) = View.ld X r := by rw [View.readAt_eq_ld, h.read_unread]

/-- The zero offsets. -/
theorem off_zero : (![0, 0] : Fin 2 → ℕ) = fun _ => 0 := by funext a; fin_cases a <;> rfl

/-- A load through the whole of a buffer held at contents that read `X`. -/
theorem rdw_S512x4096 {e : EltTy} {κ : Kind} {sp : Space} {a : Memref sig κ sp S512x4096 e} (h : a.IsWhole) (X : S512x4096.Idx → Elt F e) :
    View.readAt (Elt F) a.view (Rect.unit (s := S512x4096) ![0, 0] S512x4096.size inb_S512x4096_S512x4096_0_0).toLoadRect (h.unread X) = X := by
  rw [readAt_unread']; exact View.ld_unit_zero off_zero _ X
/-- A load through the whole of a buffer that one store wrote whole. -/
theorem rcw_S512x4096 {e : EltTy} {κ : Kind} {sp : Space} (v : View sig κ sp S512x4096 e) (w : S512x4096.Idx → Elt F e) :
    v.readCov [(⟨Rect.unit (s := S512x4096) ![0, 0] S512x4096.size inb_S512x4096_S512x4096_0_0, w⟩ : View.Piece (Elt F) S512x4096 e)]
      (Rect.unit (s := S512x4096) ![0, 0] S512x4096.size inb_S512x4096_S512x4096_0_0).toLoadRect = w := View.readCov_unit_zero v off_zero _ w
/-- What a buffer whose last store wrote it whole reads. -/
theorem rd1_S512x4096 {e : EltTy} {κ : Kind} {sp : Space} (v : View sig κ sp S512x4096 e) (f : v.ty.Contents (Elt F)) (w : S512x4096.Idx → Elt F e)
    (L : List (View.Piece (Elt F) S512x4096 e)) :
    v.read (Elt F) (v.writes (Elt F) f ((⟨Rect.unit (s := S512x4096) ![0, 0] S512x4096.size inb_S512x4096_S512x4096_0_0, w⟩ : View.Piece (Elt F) S512x4096 e) :: L)) = w := by
  rw [View.read_writes_eq_canon _ _ _ (fun y => ⟨_, List.mem_cons_self, View.mem_set_unit_zero off_zero inb_S512x4096_S512x4096_0_0 y⟩)]
  exact View.canon_cons_unit_zero off_zero _ w L

/-- A load through the whole of a buffer held at contents that read `X`. -/
theorem rdw_S512x1 {e : EltTy} {κ : Kind} {sp : Space} {a : Memref sig κ sp S512x1 e} (h : a.IsWhole) (X : S512x1.Idx → Elt F e) :
    View.readAt (Elt F) a.view (Rect.unit (s := S512x1) ![0, 0] S512x1.size inb_S512x1_S512x1_0_0).toLoadRect (h.unread X) = X := by
  rw [readAt_unread']; exact View.ld_unit_zero off_zero _ X
/-- A load through the whole of a buffer that one store wrote whole. -/
theorem rcw_S512x1 {e : EltTy} {κ : Kind} {sp : Space} (v : View sig κ sp S512x1 e) (w : S512x1.Idx → Elt F e) :
    v.readCov [(⟨Rect.unit (s := S512x1) ![0, 0] S512x1.size inb_S512x1_S512x1_0_0, w⟩ : View.Piece (Elt F) S512x1 e)]
      (Rect.unit (s := S512x1) ![0, 0] S512x1.size inb_S512x1_S512x1_0_0).toLoadRect = w := View.readCov_unit_zero v off_zero _ w
/-- What a buffer whose last store wrote it whole reads. -/
theorem rd1_S512x1 {e : EltTy} {κ : Kind} {sp : Space} (v : View sig κ sp S512x1 e) (f : v.ty.Contents (Elt F)) (w : S512x1.Idx → Elt F e)
    (L : List (View.Piece (Elt F) S512x1 e)) :
    v.read (Elt F) (v.writes (Elt F) f ((⟨Rect.unit (s := S512x1) ![0, 0] S512x1.size inb_S512x1_S512x1_0_0, w⟩ : View.Piece (Elt F) S512x1 e) :: L)) = w := by
  rw [View.read_writes_eq_canon _ _ _ (fun y => ⟨_, List.mem_cons_self, View.mem_set_unit_zero off_zero inb_S512x1_S512x1_0_0 y⟩)]
  exact View.canon_cons_unit_zero off_zero _ w L

/-- A load through the whole of a buffer held at contents that read `X`. -/
theorem rdw_S4096x768 {e : EltTy} {κ : Kind} {sp : Space} {a : Memref sig κ sp S4096x768 e} (h : a.IsWhole) (X : S4096x768.Idx → Elt F e) :
    View.readAt (Elt F) a.view (Rect.unit (s := S4096x768) ![0, 0] S4096x768.size inb_S4096x768_S4096x768_0_0).toLoadRect (h.unread X) = X := by
  rw [readAt_unread']; exact View.ld_unit_zero off_zero _ X
/-- A load through the whole of a buffer that one store wrote whole. -/
theorem rcw_S4096x768 {e : EltTy} {κ : Kind} {sp : Space} (v : View sig κ sp S4096x768 e) (w : S4096x768.Idx → Elt F e) :
    v.readCov [(⟨Rect.unit (s := S4096x768) ![0, 0] S4096x768.size inb_S4096x768_S4096x768_0_0, w⟩ : View.Piece (Elt F) S4096x768 e)]
      (Rect.unit (s := S4096x768) ![0, 0] S4096x768.size inb_S4096x768_S4096x768_0_0).toLoadRect = w := View.readCov_unit_zero v off_zero _ w
/-- What a buffer whose last store wrote it whole reads. -/
theorem rd1_S4096x768 {e : EltTy} {κ : Kind} {sp : Space} (v : View sig κ sp S4096x768 e) (f : v.ty.Contents (Elt F)) (w : S4096x768.Idx → Elt F e)
    (L : List (View.Piece (Elt F) S4096x768 e)) :
    v.read (Elt F) (v.writes (Elt F) f ((⟨Rect.unit (s := S4096x768) ![0, 0] S4096x768.size inb_S4096x768_S4096x768_0_0, w⟩ : View.Piece (Elt F) S4096x768 e) :: L)) = w := by
  rw [View.read_writes_eq_canon _ _ _ (fun y => ⟨_, List.mem_cons_self, View.mem_set_unit_zero off_zero inb_S4096x768_S4096x768_0_0 y⟩)]
  exact View.canon_cons_unit_zero off_zero _ w L

/-- A load through the whole of a buffer held at contents that read `X`. -/
theorem rdw_S512x128 {e : EltTy} {κ : Kind} {sp : Space} {a : Memref sig κ sp S512x128 e} (h : a.IsWhole) (X : S512x128.Idx → Elt F e) :
    View.readAt (Elt F) a.view (Rect.unit (s := S512x128) ![0, 0] S512x128.size inb_S512x128_S512x128_0_0).toLoadRect (h.unread X) = X := by
  rw [readAt_unread']; exact View.ld_unit_zero off_zero _ X
/-- A load through the whole of a buffer that one store wrote whole. -/
theorem rcw_S512x128 {e : EltTy} {κ : Kind} {sp : Space} (v : View sig κ sp S512x128 e) (w : S512x128.Idx → Elt F e) :
    v.readCov [(⟨Rect.unit (s := S512x128) ![0, 0] S512x128.size inb_S512x128_S512x128_0_0, w⟩ : View.Piece (Elt F) S512x128 e)]
      (Rect.unit (s := S512x128) ![0, 0] S512x128.size inb_S512x128_S512x128_0_0).toLoadRect = w := View.readCov_unit_zero v off_zero _ w
/-- What a buffer whose last store wrote it whole reads. -/
theorem rd1_S512x128 {e : EltTy} {κ : Kind} {sp : Space} (v : View sig κ sp S512x128 e) (f : v.ty.Contents (Elt F)) (w : S512x128.Idx → Elt F e)
    (L : List (View.Piece (Elt F) S512x128 e)) :
    v.read (Elt F) (v.writes (Elt F) f ((⟨Rect.unit (s := S512x128) ![0, 0] S512x128.size inb_S512x128_S512x128_0_0, w⟩ : View.Piece (Elt F) S512x128 e) :: L)) = w := by
  rw [View.read_writes_eq_canon _ _ _ (fun y => ⟨_, List.mem_cons_self, View.mem_set_unit_zero off_zero inb_S512x128_S512x128_0_0 y⟩)]
  exact View.canon_cons_unit_zero off_zero _ w L

/-- The contents that read `X` with the pieces `L` (last first) stored over them. -/
def over {s : Shape} {e : EltTy} (X : s.Idx → Elt F e) (L : List (View.Piece (Elt F) s e)) : s.Idx → Elt F e :=
  View.canon (L ++ [⟨Rect.whole s, X⟩])

/-- What a whole buffer reads after those stores. -/
theorem read_writes_over {s : Shape} {e : EltTy} {κ : Kind} {sp : Space} {a : Memref sig κ sp s e} (h : a.IsWhole) (X : s.Idx → Elt F e) :
    ∀ L : List (View.Piece (Elt F) s e), a.view.read (Elt F) (a.view.writes (Elt F) (h.unread X) L) = over X L
  | [] => by
    funext y
    have e := View.canon_cons_emb (Val := Elt F) (Rect.whole s) X [] y
    rw [Rect.emb_whole_apply] at e
    rw [View.writes_nil, h.read_unread]
    exact e.symm
  | p :: L => by
    funext y
    by_cases hy : y ∈ p.1.set
    · obtain ⟨r, w⟩ := p
      obtain ⟨x, rfl⟩ : ∃ x, r.emb x = y := r.exists_idx_of_mem hy
      rw [View.read_writes_cons_emb]; unfold over; rw [List.cons_append, View.canon_cons_emb]
    · have hy' : y ∉ Finset.univ.map p.1.emb := by rwa [Rect.map_emb_univ]
      rw [View.writes_cons, View.read_slice_write_of_not_mem p.1 _ _ _ hy', read_writes_over h X L]; unfold over
      rw [List.cons_append, View.canon_cons_of_not_mem _ _ hy]

/-- A load after those stores. -/
theorem readAt_writes_over {s : Shape} {e : EltTy} {κ : Kind} {sp : Space} {a : Memref sig κ sp s e} (h : a.IsWhole) (X : s.Idx → Elt F e)
    (L : List (View.Piece (Elt F) s e)) (r : Rect s) :
    View.readAt (Elt F) a.view r.toLoadRect (a.view.writes (Elt F) (h.unread X) L) = View.ld (over X L) r := by
  rw [View.readAt_eq_ld, read_writes_over]

/-- The codes of a row block. -/
def qx (x0 : Vec F S512x4096 .bf16) : FVec F S512x4096 .fp8e4m3 := k0_pay128 (k0_pay1 x0) (k0_pay2 x0)
/-- The scales of a row block. -/
def qs (x0 : Vec F S512x4096 .bf16) : FVec F S512x1 .f32 := k0_pay127 (k0_pay3 x0)

/-- The gate scales of lane tile 0. -/
def sA0 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 0#32) S1x128.size (k0_off1_inb i 0))
/-- The up scales of lane tile 0. -/
def sB0 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 0#32) S1x128.size (k0_off2_inb i 0))
/-- The gate scales of lane tile 1. -/
def sA1 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 128#32) S1x128.size (k0_off1_inb i 1))
/-- The up scales of lane tile 1. -/
def sB1 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 128#32) S1x128.size (k0_off2_inb i 1))
/-- The gate scales of lane tile 2. -/
def sA2 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 256#32) S1x128.size (k0_off1_inb i 2))
/-- The up scales of lane tile 2. -/
def sB2 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 256#32) S1x128.size (k0_off2_inb i 2))
/-- The gate scales of lane tile 3. -/
def sA3 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 384#32) S1x128.size (k0_off1_inb i 3))
/-- The up scales of lane tile 3. -/
def sB3 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 384#32) S1x128.size (k0_off2_inb i 3))
/-- The gate scales of lane tile 4. -/
def sA4 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 512#32) S1x128.size (k0_off1_inb i 4))
/-- The up scales of lane tile 4. -/
def sB4 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 512#32) S1x128.size (k0_off2_inb i 4))
/-- The gate scales of lane tile 5. -/
def sA5 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off1 i 640#32) S1x128.size (k0_off1_inb i 5))
/-- The up scales of lane tile 5. -/
def sB5 (i : grid0.Coords) (x6 : Vec F S512x4096 .fp8e4m3) (x7 : Vec F S512x1 .f32) (x1 x2 : Vec F S4096x768 .fp8e4m3) (x3 : Vec F S1x13696 .f32) (xc xa : Vec F S512x128 .f32) : Vec F S1x128 .f32 :=
  View.ld x3 (Rect.unit (s := S1x13696) (k0_off2 i 640#32) S1x128.size (k0_off2_inb i 5))
/-- The row scales. -/
def s9 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x1 .f32 :=
  k0_pay132 x7
/-- The gate products of the column tile. -/
def s11 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x768 .f32 :=
  k0_pay133 x6 x1
/-- The up products of the column tile. -/
def s13 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x768 .f32 :=
  k0_pay134 x6 x2
/-- The first lane tile's gate products times the row scales. -/
def s31 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay136 x6 x7 x1
/-- The first lane tile's gate scales. -/
def s32 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay137 (sA0 i x6 x7 x1 x2 x3 xc xa)
/-- The first lane tile's up scales. -/
def s28 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S1x128 .f32 :=
  k0_pay135 (sB0 i x6 x7 x1 x2 x3 xc xa)
/-- The rotated gate activation of lane tile 0. -/
def sC0 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay138 (s31 i x6 x7 x1 x2 x3 xc xa) (s32 i x6 x7 x1 x2 x3 xc xa)
/-- The lane-wise maximum after lane tile 0. -/
def sM0 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay141 (BitVec.ofNat 32 (i 1).val) k0_pay126 (s9 i x6 x7 x1 x2 x3 xc xa) (s13 i x6 x7 x1 x2 x3 xc xa) xc xa (s28 i x6 x7 x1 x2 x3 xc xa) (s31 i x6 x7 x1 x2 x3 xc xa) (s32 i x6 x7 x1 x2 x3 xc xa)
/-- The up scales of lane tile 1, as the body binds them. -/
def s70 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S1x128 .f32 :=
  k0_pay142 (sB1 i x6 x7 x1 x2 x3 xc xa)
/-- The gate of lane tile 1. -/
def s75 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay143 (s9 i x6 x7 x1 x2 x3 xc xa) (s11 i x6 x7 x1 x2 x3 xc xa) (sA1 i x6 x7 x1 x2 x3 xc xa)
/-- The up products of lane tile 1 times the row scales. -/
def s78 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay144 (s9 i x6 x7 x1 x2 x3 xc xa) (s13 i x6 x7 x1 x2 x3 xc xa)
/-- The lane-wise maximum after lane tile 1. -/
def sM1 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay148 k0_pay126 (sC0 i x6 x7 x1 x2 x3 xc xa) (sM0 i x6 x7 x1 x2 x3 xc xa) (s70 i x6 x7 x1 x2 x3 xc xa) (s75 i x6 x7 x1 x2 x3 xc xa) (s78 i x6 x7 x1 x2 x3 xc xa)
/-- The rotated gate activation of lane tile 2. -/
def sC2 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay149 (s9 i x6 x7 x1 x2 x3 xc xa) (s11 i x6 x7 x1 x2 x3 xc xa) (sA2 i x6 x7 x1 x2 x3 xc xa)
/-- Lane tile 2 of the hidden values. -/
def sH2 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay150 k0_pay126 (s9 i x6 x7 x1 x2 x3 xc xa) (s11 i x6 x7 x1 x2 x3 xc xa) (s13 i x6 x7 x1 x2 x3 xc xa) (s75 i x6 x7 x1 x2 x3 xc xa) (sA2 i x6 x7 x1 x2 x3 xc xa) (sB2 i x6 x7 x1 x2 x3 xc xa)
/-- The rotated gate activation of lane tile 3. -/
def sC3 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay152 (s9 i x6 x7 x1 x2 x3 xc xa) (s11 i x6 x7 x1 x2 x3 xc xa) (sA3 i x6 x7 x1 x2 x3 xc xa)
/-- The lane-wise maximum after lane tile 3. -/
def sM3 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay155 k0_pay126 (s9 i x6 x7 x1 x2 x3 xc xa) (s11 i x6 x7 x1 x2 x3 xc xa) (s13 i x6 x7 x1 x2 x3 xc xa) (sM1 i x6 x7 x1 x2 x3 xc xa) (sC2 i x6 x7 x1 x2 x3 xc xa) (sH2 i x6 x7 x1 x2 x3 xc xa) (sA3 i x6 x7 x1 x2 x3 xc xa) (sB3 i x6 x7 x1 x2 x3 xc xa)
/-- The rotated gate activation of lane tile 4. -/
def sC4 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay156 (s9 i x6 x7 x1 x2 x3 xc xa) (s11 i x6 x7 x1 x2 x3 xc xa) (sA4 i x6 x7 x1 x2 x3 xc xa)
/-- The lane-wise maximum after lane tile 4. -/
def sM4 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay159 k0_pay126 (s9 i x6 x7 x1 x2 x3 xc xa) (s11 i x6 x7 x1 x2 x3 xc xa) (s13 i x6 x7 x1 x2 x3 xc xa) (sC3 i x6 x7 x1 x2 x3 xc xa) (sM3 i x6 x7 x1 x2 x3 xc xa) (sA4 i x6 x7 x1 x2 x3 xc xa) (sB4 i x6 x7 x1 x2 x3 xc xa)
/-- The gate scales of lane tile 5, as the body binds them. -/
def s211 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S1x128 .f32 :=
  k0_pay160 (sA5 i x6 x7 x1 x2 x3 xc xa)
/-- What is stored as lane tile 0 of the hidden values. -/
def sP0 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay140 (BitVec.ofNat 32 (i 1).val) k0_pay126 (s9 i x6 x7 x1 x2 x3 xc xa) (s13 i x6 x7 x1 x2 x3 xc xa) xc (s28 i x6 x7 x1 x2 x3 xc xa) (s31 i x6 x7 x1 x2 x3 xc xa) (s32 i x6 x7 x1 x2 x3 xc xa)
/-- What is stored as lane tile 1 of the hidden values. -/
def sP1 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay147 k0_pay126 (sC0 i x6 x7 x1 x2 x3 xc xa) (s70 i x6 x7 x1 x2 x3 xc xa) (s75 i x6 x7 x1 x2 x3 xc xa) (s78 i x6 x7 x1 x2 x3 xc xa)
/-- What is stored as lane tile 2 of the hidden values. -/
def sP2 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay151 (sH2 i x6 x7 x1 x2 x3 xc xa)
/-- What is stored as lane tile 3 of the hidden values. -/
def sP3 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay154 k0_pay126 (s9 i x6 x7 x1 x2 x3 xc xa) (s11 i x6 x7 x1 x2 x3 xc xa) (s13 i x6 x7 x1 x2 x3 xc xa) (sC2 i x6 x7 x1 x2 x3 xc xa) (sA3 i x6 x7 x1 x2 x3 xc xa) (sB3 i x6 x7 x1 x2 x3 xc xa)
/-- What is stored as lane tile 4 of the hidden values. -/
def sP4 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay158 k0_pay126 (s9 i x6 x7 x1 x2 x3 xc xa) (s11 i x6 x7 x1 x2 x3 xc xa) (s13 i x6 x7 x1 x2 x3 xc xa) (sC3 i x6 x7 x1 x2 x3 xc xa) (sA4 i x6 x7 x1 x2 x3 xc xa) (sB4 i x6 x7 x1 x2 x3 xc xa)
/-- What is stored as lane tile 5 of the hidden values. -/
def sP5 (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay163 k0_pay126 (s9 i x6 x7 x1 x2 x3 xc xa) (s11 i x6 x7 x1 x2 x3 xc xa) (s13 i x6 x7 x1 x2 x3 xc xa) (sC4 i x6 x7 x1 x2 x3 xc xa) (s211 i x6 x7 x1 x2 x3 xc xa) (sB5 i x6 x7 x1 x2 x3 xc xa)
/-- The stores of one column tile into the hidden values, last first. -/
def stepH (i : grid0.Coords) (x6 : Vec F S512x4096 .fp8e4m3) (x7 : Vec F S512x1 .f32) (x1 x2 : Vec F S4096x768 .fp8e4m3) (x3 : Vec F S1x13696 .f32) (xc xa : Vec F S512x128 .f32) : List (View.Piece (Elt F) S512x6912 .f32) :=
  [⟨Rect.unit (s := S512x6912) (k0_off3 i 640#32) S512x128.size (k0_off3_inb i 5), (sP5 i x6 x7 x1 x2 x3 xc xa)⟩,
    ⟨Rect.unit (s := S512x6912) (k0_off3 i 512#32) S512x128.size (k0_off3_inb i 4), (sP4 i x6 x7 x1 x2 x3 xc xa)⟩,
    ⟨Rect.unit (s := S512x6912) (k0_off3 i 384#32) S512x128.size (k0_off3_inb i 3), (sP3 i x6 x7 x1 x2 x3 xc xa)⟩,
    ⟨Rect.unit (s := S512x6912) (k0_off3 i 256#32) S512x128.size (k0_off3_inb i 2), (sP2 i x6 x7 x1 x2 x3 xc xa)⟩,
    ⟨Rect.unit (s := S512x6912) (k0_off3 i 128#32) S512x128.size (k0_off3_inb i 1), (sP1 i x6 x7 x1 x2 x3 xc xa)⟩,
    ⟨Rect.unit (s := S512x6912) (k0_off3 i 0#32) S512x128.size (k0_off3_inb i 0), (sP0 i x6 x7 x1 x2 x3 xc xa)⟩]
/-- The rotated activation carried to the next column tile. -/
def stepC (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay164 (s9 i x6 x7 x1 x2 x3 xc xa) (s11 i x6 x7 x1 x2 x3 xc xa) (s211 i x6 x7 x1 x2 x3 xc xa)
/-- The lane-wise maximum after the column tile. -/
def stepM (i : grid0.Coords) (x6 : Vec F S512x4096 .fp8e4m3) (x7 : Vec F S512x1 .f32) (x1 x2 : Vec F S4096x768 .fp8e4m3) (x3 : Vec F S1x13696 .f32) (xc xa : Vec F S512x128 .f32) : FVec F S512x128 .f32 :=
  k0_pay165 k0_pay126 (s9 i x6 x7 x1 x2 x3 xc xa) (s11 i x6 x7 x1 x2 x3 xc xa) (s13 i x6 x7 x1 x2 x3 xc xa) (sC4 i x6 x7 x1 x2 x3 xc xa) (sM4 i x6 x7 x1 x2 x3 xc xa) (s211 i x6 x7 x1 x2 x3 xc xa) (sB5 i x6 x7 x1 x2 x3 xc xa)

/-- The in-bounds facts of the epilogue's lane tiles. -/
theorem ep_inb (t : Fin 53) : ∀ a, (![0, 128 * t.val] : Fin 2 → ℕ) a + S512x128.size a ≤ S512x6848.size a := by
  have := t.isLt; intro a; fin_cases a
  · show 0 + 512 ≤ 512; omega
  · show 128 * t.val + 128 ≤ 6848; omega
theorem ep_inbH (t : Fin 54) : ∀ a, (![0, 128 * t.val] : Fin 2 → ℕ) a + S512x128.size a ≤ S512x6912.size a := by
  have := t.isLt; intro a; fin_cases a
  · show 0 + 512 ≤ 512; omega
  · show 128 * t.val + 128 ≤ 6912; omega
/-- Lane tile `t` of the hidden values. -/
abbrev hTile (H : Vec F S512x6912 .f32) (t : Fin 54) : Vec F S512x128 .f32 :=
  View.ld H (Rect.unit (s := S512x6912) ![0, 128 * t.val] S512x128.size (ep_inbH t))
/-- The codes the epilogue stores as lane tile `t`. -/
def epPiece (M : Vec F S512x128 .f32) (H : Vec F S512x6912 .f32) (t : Fin 53) : View.Piece (Elt F) S512x6848 .fp8e4m3 :=
  ⟨Rect.unit (s := S512x6848) ![0, 128 * t.val] S512x128.size (ep_inb t), k0_pay9 k0_pay126 (k0_pay4 M) k0_pay6 (hTile H t.castSucc) (hTile H t.succ)⟩
/-- The codes the epilogue stores last, half a lane tile. -/
def epLast (M : Vec F S512x128 .f32) (H : Vec F S512x6912 .f32) : View.Piece (Elt F) S512x6848 .fp8e4m3 :=
  ⟨Rect.unit (s := S512x6848) ![0, 6784] S512x64.size inb_S512x6848_S512x64_0_6784, k0_pay166 (k0_pay7 (k0_pay4 M) k0_pay6) (k0_pay124 (hTile H 53))⟩
/-- The epilogue's stores of codes, last first. -/
def epC (M : Vec F S512x128 .f32) (H : Vec F S512x6912 .f32) : List (View.Piece (Elt F) S512x6848 .fp8e4m3) :=
  epLast M H :: (List.finRange 53).reverse.map (epPiece M H)

end Cert.KernelIdeal.Body

end
-- ==== Proof.Quant.lean ====
/- The quantiser's exponent: the kernel's corrected floor of the binary logarithm is the plain one over the extended reals. -/
module

public import Idealize.ShloMosaic.Lib.Pointwise

@[expose] public section

set_option maxRecDepth 16384

noncomputable section

namespace Cert.Quant

open Idealize.ShloMosaic Idealize.ShloMosaic.TcCoe Idealize.ShloMosaic.Tactic

variable {F : FTy → Type} [FloatOps F]

/-- The floor of the binary logarithm of `q`, plus one. -/
def base (q : F .f32) : F .f32 :=
  FloatOps.addf (FloatOps.floor (FloatOps.divf (FloatOps.log q) (FloatOps.log (Scalar.ofBits .f32 0x40000000#32)))) (Scalar.ofBits .f32 0x3F800000#32)

/-- Two to the power of an integer `f`, as the kernel computes it: rounded to a bfloat16, which holds every power of two. -/
def pow2 (f : F .f32) : F .f32 :=
  FloatOps.extf .f32 (by decide) (FloatOps.truncf .bf16 (by decide) (FloatOps.exp2 f))

/-- Over the extended reals the rounding is the identity. -/
theorem pow2_def (f : EReal) : pow2 (F := Ideal) f = Ideal.exp2 f := rfl

/-- Raised by one where the power of two is at most `q`. -/
def up (q : F .f32) : F .f32 :=
  Scalar.select (FloatOps.cmpf .ole (pow2 (base q)) q) (FloatOps.addf (base q) (Scalar.ofBits .f32 0x3F800000#32)) (base q)

/-- Lowered by one where half the power of two exceeds `q`. -/
def down (q : F .f32) : F .f32 :=
  Scalar.select (FloatOps.cmpf .olt q (pow2 (FloatOps.subf (up q) (Scalar.ofBits .f32 0x3F800000#32))))
    (FloatOps.subf (up q) (Scalar.ofBits .f32 0x3F800000#32)) (up q)

/-- Zero where `q` is zero or infinite, else `e`. -/
def guard (q e : F .f32) : F .f32 :=
  Scalar.select (IntOp.ori (FloatOps.cmpf .oeq q (Scalar.ofBits .f32 0x00000000#32)) (FloatOps.cmpf .oeq q (Scalar.ofBits .f32 0x7F800000#32)))
    (Scalar.ofBits .f32 0x00000000#32) e

/-- The exponent the kernel takes from the row maximum `a`. -/
def kerExp (a : F .f32) : BitVec 32 :=
  Scalar.select (FloatOps.cmpf .oeq a (Scalar.ofBits .f32 0x00000000#32)) 0#32
    (FloatOps.fptosi 32 (guard (FloatOps.mulf a (Scalar.ofBits .f32 0x3B124925#32)) (down (FloatOps.mulf a (Scalar.ofBits .f32 0x3B124925#32)))))

/-- The exponent the reference takes from the row maximum `a`. -/
def refExp (a : F .f32) : BitVec 32 :=
  Scalar.select (FloatOps.cmpf .oeq a (Scalar.ofBits .f32 0x00000000#32)) 0#32
    (FloatOps.fptosi 32 (guard (FloatOps.mulf a (Scalar.ofBits .f32 0x3B124925#32)) (base (FloatOps.mulf a (Scalar.ofBits .f32 0x3B124925#32)))))

/-- The scale of an exponent. -/
def scl (e : BitVec 32) : F .f32 := FloatOps.exp2 (FloatOps.sitofp .f32 e)

/-- The code of `v` under an exponent. -/
def code (v : F .f32) (e : BitVec 32) : F .f32 :=
  FloatOps.minimumf (Scalar.ofBits .f32 0x43E00000#32) (FloatOps.maximumf (Scalar.ofBits .f32 0xC3E00000#32)
    (FloatOps.mulf v (FloatOps.exp2 (FloatOps.sitofp .f32 (IntOp.subi 0#32 e)))))

theorem bits_one : (Scalar.ofBits .f32 0x3F800000#32 : Ideal .f32) = (1 : EReal) := by
  show Ideal.ofBits .f32 0x3F800000#32 = 1
  rw [show (1 : EReal) = ((1 : ℝ) : EReal) by norm_cast]
  simp [Ideal.ofBits, Ideal.ieee, -EReal.coe_mul]; norm_num
theorem bits_two : (Scalar.ofBits .f32 0x40000000#32 : Ideal .f32) = ((2 : ℝ) : EReal) := by
  show Ideal.ofBits .f32 0x40000000#32 = ((2 : ℝ) : EReal)
  simp [Ideal.ofBits, Ideal.ieee, -EReal.coe_mul]; norm_num
theorem bits_top : (Scalar.ofBits .f32 0x7F800000#32 : Ideal .f32) = (⊤ : EReal) := by
  show Ideal.ofBits .f32 0x7F800000#32 = ⊤
  simp [Ideal.ofBits, Ideal.ieee]
theorem bits_zero : (Scalar.ofBits .f32 0x00000000#32 : Ideal .f32) = (0 : EReal) := by
  show Ideal.ofBits .f32 0x00000000#32 = 0
  simp [Ideal.ofBits, Ideal.ieee]
theorem bits_bot : Ideal.ofBits .f32 0xFF800000#32 = (⊥ : EReal) := by
  simp [Ideal.ofBits, Ideal.ieee]

/-- `base` over the extended reals. -/
theorem base_def (q : EReal) : base (F := Ideal) q = Ideal.liftRound Int.floor (Ideal.div (Ideal.log q) (Ideal.log ((2 : ℝ) : EReal))) + 1 := by
  unfold base; rw [bits_one, bits_two]; rfl

theorem up_def (q : EReal) : up (F := Ideal) q = if Ideal.exp2 (base (F := Ideal) q) ≤ q then (base (F := Ideal) q : EReal) + 1 else base (F := Ideal) q := by
  unfold up; rw [bits_one]
  show Scalar.select (BitVec.ofBool (decide (Ideal.exp2 (base (F := Ideal) q) ≤ q))) _ _ = _
  by_cases h : Ideal.exp2 (base (F := Ideal) q) ≤ q
  · rw [if_pos h, decide_eq_true h]; rfl
  · rw [if_neg h, decide_eq_false h]; rfl

theorem down_def (q : EReal) : down (F := Ideal) q = if q < Ideal.exp2 ((up (F := Ideal) q : EReal) - 1) then (up (F := Ideal) q : EReal) - 1 else up (F := Ideal) q := by
  unfold down; rw [bits_one]
  show Scalar.select (BitVec.ofBool (decide (q < Ideal.exp2 ((up (F := Ideal) q : EReal) - 1)))) _ _ = _
  by_cases h : q < Ideal.exp2 ((up (F := Ideal) q : EReal) - 1)
  · rw [if_pos h, decide_eq_true h]; rfl
  · rw [if_neg h, decide_eq_false h]; rfl

theorem log_two : Ideal.log ((2 : ℝ) : EReal) = ((Real.log 2 : ℝ) : EReal) := by
  rw [Ideal.log_coe]; exact if_neg (by norm_num)

theorem base_of_log_bot (q : EReal) (h : Ideal.log q = ⊥) : base (F := Ideal) q = (⊥ : EReal) := by
  have h2 : (0 : ℝ) < Real.log 2 := Real.log_pos (by norm_num)
  rw [base_def, h, log_two]
  unfold Ideal.div
  rw [if_neg (by exact_mod_cast h2.ne'), ← EReal.coe_inv, EReal.bot_mul_coe_of_pos (inv_pos.2 h2)]
  rfl

theorem down_of_log_bot (q : EReal) (h : Ideal.log q = ⊥) (hq : q < 0) : down (F := Ideal) q = base (F := Ideal) q := by
  have hb := base_of_log_bot q h
  have hu : up (F := Ideal) q = (⊥ : EReal) := by
    rw [up_def, hb, Ideal.exp2_bot, if_neg (not_le.2 hq)]
  rw [down_def, hu, hb]
  have e : (⊥ : EReal) - 1 = ⊥ := EReal.bot_sub _
  rw [e]; exact ite_self _

/-- No correction ever applies to a positive real. -/
theorem down_of_pos (r : ℝ) (hr : 0 < r) : down (F := Ideal) (r : EReal) = base (F := Ideal) (r : EReal) := by
  have h2 : (0 : ℝ) < Real.log 2 := Real.log_pos (by norm_num)
  have hb : base (F := Ideal) (r : EReal) = (((⌊Real.log r / Real.log 2⌋ : ℝ) + 1 : ℝ) : EReal) := by
    rw [base_def, log_two, Ideal.log_coe, if_neg (not_le.2 hr)]
    unfold Ideal.div
    rw [if_neg (by exact_mod_cast h2.ne'), ← EReal.coe_inv, ← EReal.coe_mul, Ideal.liftRound_coe, ← div_eq_mul_inv]
    push_cast; rfl
  set n : ℤ := ⌊Real.log r / Real.log 2⌋ with hn
  have hlo : (2 : ℝ) ^ (n : ℝ) ≤ r := by
    have h := Int.floor_le (Real.log r / Real.log 2)
    rw [← hn, le_div_iff₀ h2] at h
    rw [← Real.exp_log hr, Real.rpow_def_of_pos (by norm_num)]
    exact Real.exp_le_exp.2 (by linarith)
  have hhi : r < (2 : ℝ) ^ ((n : ℝ) + 1) := by
    have h := Int.lt_floor_add_one (Real.log r / Real.log 2)
    rw [← hn, div_lt_iff₀ h2] at h
    rw [← Real.exp_log hr, Real.rpow_def_of_pos (by norm_num)]
    exact Real.exp_lt_exp.2 (by linarith)
  have hu : up (F := Ideal) (r : EReal) = (((n : ℝ) + 1 : ℝ) : EReal) := by
    rw [up_def, hb, Ideal.exp2_coe, if_neg]
    exact not_le.2 (by exact EReal.coe_lt_coe_iff.2 hhi)
  have e1 : ((((n : ℝ) + 1 : ℝ) : EReal)) - 1 = ((n : ℝ) : EReal) := by
    rw [← EReal.coe_one, ← EReal.coe_sub]; congr 1; ring
  rw [down_def, hu, e1, Ideal.exp2_coe, if_neg, hb]
  exact not_lt.2 (by exact EReal.coe_le_coe_iff.2 hlo)

theorem guard_zero (e : EReal) : guard (F := Ideal) (0 : EReal) e = (0 : EReal) := by
  unfold guard; rw [bits_zero, bits_top]
  show Scalar.select (IntOp.ori (BitVec.ofBool (decide ((0 : EReal) = 0))) (BitVec.ofBool (decide ((0 : EReal) = ⊤)))) _ _ = _
  rw [decide_eq_true rfl, decide_eq_false (by simp)]; rfl
theorem guard_top (e : EReal) : guard (F := Ideal) (⊤ : EReal) e = (0 : EReal) := by
  unfold guard; rw [bits_zero, bits_top]
  show Scalar.select (IntOp.ori (BitVec.ofBool (decide ((⊤ : EReal) = 0))) (BitVec.ofBool (decide ((⊤ : EReal) = ⊤)))) _ _ = _
  rw [decide_eq_true (rfl : (⊤ : EReal) = ⊤), decide_eq_false (by simp)]; rfl

/-- The corrected exponent is the plain one wherever the guard lets either through. -/
theorem guard_down (q : EReal) : guard (F := Ideal) q (down (F := Ideal) q) = guard (F := Ideal) q (base (F := Ideal) q) := by
  induction q using EReal.rec with
  | bot => rw [down_of_log_bot ⊥ rfl EReal.bot_lt_zero]
  | top => rw [guard_top, guard_top]
  | coe r =>
    rcases lt_trichotomy r 0 with h | h | h
    · rw [down_of_log_bot (r : EReal) (by rw [Ideal.log_coe, if_pos h.le]) (by exact_mod_cast h)]
    · subst h; rw [EReal.coe_zero, guard_zero, guard_zero]
    · rw [down_of_pos r h]

/-- The kernel's exponent is the reference's. -/
theorem kerExp_eq (a : EReal) : kerExp (F := Ideal) a = refExp (F := Ideal) a := by
  unfold kerExp refExp; rw [guard_down]

end Cert.Quant
-- ==== Proof.Spec.lean ====
/- The four results as plain functions of the entries of the three operands, over the extended reals. -/
module

public import proofs.«01_k».proof.Proof.Quant

@[expose] public section

set_option maxRecDepth 16384

noncomputable section

namespace Cert.Spec

open Idealize.ShloMosaic Cert.Quant

/-- The absolute value. -/
def eabs (y : EReal) : EReal := max y (-y)

/-- `y` times its logistic. -/
def silu (y : EReal) : EReal := y * Ideal.logistic y

variable (X : Fin 12288 → Fin 4096 → EReal) (W : Fin 4096 → Fin 13696 → EReal) (S : Fin 13696 → EReal)

/-- The exponent of a row of activations. -/
def eX (R : Fin 12288) : BitVec 32 := refExp (F := Ideal) (Finset.univ.fold max (⊥ : EReal) fun k : Fin 4096 => eabs (X R k))
/-- The codes of the activations. -/
def cX (R : Fin 12288) (k : Fin 4096) : EReal := code (F := Ideal) (X R k) (eX X R)
/-- The scales of the activations. -/
def sX (R : Fin 12288) : EReal := scl (F := Ideal) (eX X R)
/-- The scaled product of the codes with the weights. -/
def yv (R : Fin 12288) (c : Fin 13696) : EReal := (∑ k : Fin 4096, cX X R k * W k c) * sX X R * S c
/-- The hidden values. -/
def hid (R : Fin 12288) (c : Fin 6848) : EReal := silu (yv X W S R ⟨c.val, by omega⟩) * yv X W S R ⟨6848 + c.val, by omega⟩
/-- The exponent of a row of hidden values. -/
def eH (R : Fin 12288) : BitVec 32 := refExp (F := Ideal) (Finset.univ.fold max (⊥ : EReal) fun c : Fin 6848 => eabs (hid X W S R c))
/-- The codes of the hidden values. -/
def cH (R : Fin 12288) (c : Fin 6848) : EReal := code (F := Ideal) (hid X W S R c) (eH X W S R)
/-- The scales of the hidden values. -/
def sH (R : Fin 12288) : EReal := scl (F := Ideal) (eH X W S R)

end Cert.Spec
-- ==== Proof.KernelIdealStepVal.lean ====
/- What one column tile of the body computes over the extended reals, entry by entry. -/
module

public import proofs.«01_k».proof.Proof.KernelIdealStep
public import Idealize.ShloMosaic.Lib.Pointwise
public import proofs.«01_k».proof.Proof.Spec

@[expose] public section

set_option maxRecDepth 16384

noncomputable section

namespace Cert.KernelIdeal.Val

open Cert.KernelIdeal Cert.KernelIdeal.Gen Cert.KernelIdeal.Body Cert.Spec
open Idealize.ShloMosaic Idealize.ShloMosaic.TcCoe Idealize.ShloMosaic.Tactic

/-- An entry of the column scales, by column number. -/
def wsN (x3 : FVec Ideal S1x13696 .f32) (c : ℕ) : EReal := if h : c < 13696 then x3 (ix2 0 ⟨c, h⟩) else 0

/-- One entry of a scaled product: row `r` of the codes with column `q` of the weights, times the row's scale and the column's. -/
def col (x6 : FVec Ideal S512x4096 .fp8e4m3) (x7 : FVec Ideal S512x1 .f32) (xw : FVec Ideal S4096x768 .fp8e4m3) (x3 : FVec Ideal S1x13696 .f32)
    (off : ℕ) (r : Fin 512) (q : Fin 768) : EReal :=
  (∑ k : Fin 4096, x6 (ix2 r k) * xw (ix2 k q)) * x7 (ix2 r 0) * wsN x3 (off + q.val)

/-- Entry `(r, q)` of the hidden values one column tile stores: columns shifted by 64 against the gate. -/
def hval (i : grid0.Coords) (x6 : FVec Ideal S512x4096 .fp8e4m3) (x7 : FVec Ideal S512x1 .f32) (x1 x2 : FVec Ideal S4096x768 .fp8e4m3)
    (x3 : FVec Ideal S1x13696 .f32) (xc : FVec Ideal S512x128 .f32) (r : Fin 512) (q : Fin 768) : EReal :=
  if q.val < 64 then
    (if (i 1).val = 0 then 0 else xc (ix2 r ⟨q.val % 128, Nat.mod_lt _ (by decide)⟩) * col x6 x7 x2 x3 (768 * (i 1).val + 6784) r q)
  else silu (col x6 x7 x1 x3 (768 * (i 1).val) r ⟨q.val - 64, lt_of_le_of_lt (Nat.sub_le _ _) q.isLt⟩) * col x6 x7 x2 x3 (768 * (i 1).val + 6784) r q

variable (i : grid0.Coords) (x6 : FVec Ideal S512x4096 .fp8e4m3) (x7 : FVec Ideal S512x1 .f32) (x1 x2 : FVec Ideal S4096x768 .fp8e4m3) (x3 : FVec Ideal S1x13696 .f32) (xc xa : FVec Ideal S512x128 .f32)

/-- A scaled product as the body spells it. -/
theorem col_eq (xw : FVec Ideal S4096x768 .fp8e4m3) (off : ℕ) (r : Fin 512) (q : Fin 768) (a : ℕ) (ha : a < 768) (s : EReal)
    (hq : q.val = a) (hs : s = wsN x3 (off + a)) :
    (∑ k : Fin 4096, x6 (ix2 r k) * xw (ix2 k ⟨a, ha⟩)) * x7 (ix2 r 0) * s = col x6 x7 xw x3 off r q := by
  subst hq; subst hs; rfl

/-- The lanes of the lower half. -/
theorem low (r : Fin 512) (l : Fin 128) : (k0_pay126 : IVec S512x128 1) (ix2 r l) = if l.val < 64 then 1#1 else 0#1 := by
  pointwise [k0_pay126]
  revert l; decide +kernel

theorem sel1 (a b : EReal) : Scalar.select 1#1 a b = a := rfl
theorem sel0 (a b : EReal) : Scalar.select 0#1 a b = b := rfl

/-- The column tile's number is below 9. -/
theorem i1_lt : (i 1).val < 9 := (i 1).isLt

theorem sA0_apply (l : Fin 128) : sA0 (F := Ideal) i x6 x7 x1 x2 x3 xc xa (ix2 0 l) = wsN x3 (768 * (i 1).val + 0 + l.val) := by
  have e : k0_off1 i 0#32 1 = 768 * (i 1).val + 0 := congrFun (k0_off1_eq i 0) 1
  have e0 : k0_off1 i 0#32 0 = 0 := congrFun (k0_off1_eq i 0) 0
  have h9 := i1_lt i
  have hl := l.isLt
  have hc : 768 * (i 1).val + 0 + l.val < 13696 := by omega
  unfold sA0 wsN
  rw [dif_pos hc]
  pointwise [e]
  congr 2
theorem sB0_apply (l : Fin 128) : sB0 (F := Ideal) i x6 x7 x1 x2 x3 xc xa (ix2 0 l) = wsN x3 (768 * (i 1).val + 0 + 6784 + l.val) := by
  have e : k0_off2 i 0#32 1 = 768 * (i 1).val + 0 + 6784 := congrFun (k0_off2_eq i 0) 1
  have e0 : k0_off2 i 0#32 0 = 0 := congrFun (k0_off2_eq i 0) 0
  have h9 := i1_lt i
  have hl := l.isLt
  have hc : 768 * (i 1).val + 0 + 6784 + l.val < 13696 := by omega
  unfold sB0 wsN
  rw [dif_pos hc]
  pointwise [e]
  congr 2
theorem sA1_apply (l : Fin 128) : sA1 (F := Ideal) i x6 x7 x1 x2 x3 xc xa (ix2 0 l) = wsN x3 (768 * (i 1).val + 128 + l.val) := by
  have e : k0_off1 i 128#32 1 = 768 * (i 1).val + 128 := congrFun (k0_off1_eq i 1) 1
  have e0 : k0_off1 i 128#32 0 = 0 := congrFun (k0_off1_eq i 1) 0
  have h9 := i1_lt i
  have hl := l.isLt
  have hc : 768 * (i 1).val + 128 + l.val < 13696 := by omega
  unfold sA1 wsN
  rw [dif_pos hc]
  pointwise [e]
  congr 2
theorem sB1_apply (l : Fin 128) : sB1 (F := Ideal) i x6 x7 x1 x2 x3 xc xa (ix2 0 l) = wsN x3 (768 * (i 1).val + 128 + 6784 + l.val) := by
  have e : k0_off2 i 128#32 1 = 768 * (i 1).val + 128 + 6784 := congrFun (k0_off2_eq i 1) 1
  have e0 : k0_off2 i 128#32 0 = 0 := congrFun (k0_off2_eq i 1) 0
  have h9 := i1_lt i
  have hl := l.isLt
  have hc : 768 * (i 1).val + 128 + 6784 + l.val < 13696 := by omega
  unfold sB1 wsN
  rw [dif_pos hc]
  pointwise [e]
  congr 2
theorem sA2_apply (l : Fin 128) : sA2 (F := Ideal) i x6 x7 x1 x2 x3 xc xa (ix2 0 l) = wsN x3 (768 * (i 1).val + 256 + l.val) := by
  have e : k0_off1 i 256#32 1 = 768 * (i 1).val + 256 := congrFun (k0_off1_eq i 2) 1
  have e0 : k0_off1 i 256#32 0 = 0 := congrFun (k0_off1_eq i 2) 0
  have h9 := i1_lt i
  have hl := l.isLt
  have hc : 768 * (i 1).val + 256 + l.val < 13696 := by omega
  unfold sA2 wsN
  rw [dif_pos hc]
  pointwise [e]
  congr 2
theorem sB2_apply (l : Fin 128) : sB2 (F := Ideal) i x6 x7 x1 x2 x3 xc xa (ix2 0 l) = wsN x3 (768 * (i 1).val + 256 + 6784 + l.val) := by
  have e : k0_off2 i 256#32 1 = 768 * (i 1).val + 256 + 6784 := congrFun (k0_off2_eq i 2) 1
  have e0 : k0_off2 i 256#32 0 = 0 := congrFun (k0_off2_eq i 2) 0
  have h9 := i1_lt i
  have hl := l.isLt
  have hc : 768 * (i 1).val + 256 + 6784 + l.val < 13696 := by omega
  unfold sB2 wsN
  rw [dif_pos hc]
  pointwise [e]
  congr 2
theorem sA3_apply (l : Fin 128) : sA3 (F := Ideal) i x6 x7 x1 x2 x3 xc xa (ix2 0 l) = wsN x3 (768 * (i 1).val + 384 + l.val) := by
  have e : k0_off1 i 384#32 1 = 768 * (i 1).val + 384 := congrFun (k0_off1_eq i 3) 1
  have e0 : k0_off1 i 384#32 0 = 0 := congrFun (k0_off1_eq i 3) 0
  have h9 := i1_lt i
  have hl := l.isLt
  have hc : 768 * (i 1).val + 384 + l.val < 13696 := by omega
  unfold sA3 wsN
  rw [dif_pos hc]
  pointwise [e]
  congr 2
theorem sB3_apply (l : Fin 128) : sB3 (F := Ideal) i x6 x7 x1 x2 x3 xc xa (ix2 0 l) = wsN x3 (768 * (i 1).val + 384 + 6784 + l.val) := by
  have e : k0_off2 i 384#32 1 = 768 * (i 1).val + 384 + 6784 := congrFun (k0_off2_eq i 3) 1
  have e0 : k0_off2 i 384#32 0 = 0 := congrFun (k0_off2_eq i 3) 0
  have h9 := i1_lt i
  have hl := l.isLt
  have hc : 768 * (i 1).val + 384 + 6784 + l.val < 13696 := by omega
  unfold sB3 wsN
  rw [dif_pos hc]
  pointwise [e]
  congr 2
theorem sA4_apply (l : Fin 128) : sA4 (F := Ideal) i x6 x7 x1 x2 x3 xc xa (ix2 0 l) = wsN x3 (768 * (i 1).val + 512 + l.val) := by
  have e : k0_off1 i 512#32 1 = 768 * (i 1).val + 512 := congrFun (k0_off1_eq i 4) 1
  have e0 : k0_off1 i 512#32 0 = 0 := congrFun (k0_off1_eq i 4) 0
  have h9 := i1_lt i
  have hl := l.isLt
  have hc : 768 * (i 1).val + 512 + l.val < 13696 := by omega
  unfold sA4 wsN
  rw [dif_pos hc]
  pointwise [e]
  congr 2
theorem sB4_apply (l : Fin 128) : sB4 (F := Ideal) i x6 x7 x1 x2 x3 xc xa (ix2 0 l) = wsN x3 (768 * (i 1).val + 512 + 6784 + l.val) := by
  have e : k0_off2 i 512#32 1 = 768 * (i 1).val + 512 + 6784 := congrFun (k0_off2_eq i 4) 1
  have e0 : k0_off2 i 512#32 0 = 0 := congrFun (k0_off2_eq i 4) 0
  have h9 := i1_lt i
  have hl := l.isLt
  have hc : 768 * (i 1).val + 512 + 6784 + l.val < 13696 := by omega
  unfold sB4 wsN
  rw [dif_pos hc]
  pointwise [e]
  congr 2
theorem sA5_apply (l : Fin 128) : sA5 (F := Ideal) i x6 x7 x1 x2 x3 xc xa (ix2 0 l) = wsN x3 (768 * (i 1).val + 640 + l.val) := by
  have e : k0_off1 i 640#32 1 = 768 * (i 1).val + 640 := congrFun (k0_off1_eq i 5) 1
  have e0 : k0_off1 i 640#32 0 = 0 := congrFun (k0_off1_eq i 5) 0
  have h9 := i1_lt i
  have hl := l.isLt
  have hc : 768 * (i 1).val + 640 + l.val < 13696 := by omega
  unfold sA5 wsN
  rw [dif_pos hc]
  pointwise [e]
  congr 2
theorem sB5_apply (l : Fin 128) : sB5 (F := Ideal) i x6 x7 x1 x2 x3 xc xa (ix2 0 l) = wsN x3 (768 * (i 1).val + 640 + 6784 + l.val) := by
  have e : k0_off2 i 640#32 1 = 768 * (i 1).val + 640 + 6784 := congrFun (k0_off2_eq i 5) 1
  have e0 : k0_off2 i 640#32 0 = 0 := congrFun (k0_off2_eq i 5) 0
  have h9 := i1_lt i
  have hl := l.isLt
  have hc : 768 * (i 1).val + 640 + 6784 + l.val < 13696 := by omega
  unfold sB5 wsN
  rw [dif_pos hc]
  pointwise [e]
  congr 2

/-- Lane tile 0 of the hidden values. -/
theorem sP0_apply (r : Fin 512) (l : Fin 128) :
    sP0 (F := Ideal) i x6 x7 x1 x2 x3 xc xa (ix2 r l) = hval i x6 x7 x1 x2 x3 xc r ⟨l.val, by omega⟩ := by
  have hl := l.isLt
  have h9 := i1_lt i
  pointwise [sP0, k0_pay140, k0_pay139, k0_pay138, s31, s32, s28, k0_pay135, k0_pay136, k0_pay137, s9, s11, s13, k0_pay132, k0_pay133, k0_pay134, k0_pay131, low, sA0_apply, sB0_apply]
  unfold hval
  by_cases h : l.val < 64
  · have e : (⟨l.val % 128, Nat.mod_lt _ (by decide)⟩ : Fin 128) = l := Fin.ext (by show l.val % 128 = l.val; omega)
    simp only [if_pos h, if_pos (show l.val < 64 by omega)]
    rw [sel1]
    by_cases hj : (i 1).val = 0
    · rw [if_pos hj, show IntOp.andi 1#1 (Scalar.cmpi CmpIPredicate.eq (BitVec.ofNat 32 (i 1).val) 0#32) = 1#1 by rw [hj]; rfl, sel1]
    · rw [if_neg hj, show IntOp.andi 1#1 (Scalar.cmpi CmpIPredicate.eq (BitVec.ofNat 32 (i 1).val) 0#32) = 0#1 by
        generalize (i 1).val = n at hj h9; clear * - hj h9; interval_cases n <;> first | exact absurd rfl hj | decide, sel0, e,
        col_eq x6 x7 x3 x2 (768 * (i 1).val + 6784) r ⟨l.val, by omega⟩ _ _ _ (by show l.val = _; try omega) (by congr 1; try omega)]
  · simp only [if_neg h, if_neg (show ¬ (l.val < 64) by omega)]
    rw [sel0, show IntOp.andi 0#1 (Scalar.cmpi CmpIPredicate.eq (BitVec.ofNat 32 (i 1).val) 0#32) = 0#1 from BitVec.zero_and, sel0,
      col_eq x6 x7 x3 x1 (768 * (i 1).val) r ⟨l.val - 64, by omega⟩ _ _ _ (by show l.val - 64 = _; try omega) (by congr 1; try omega),
      col_eq x6 x7 x3 x2 (768 * (i 1).val + 6784) r ⟨l.val, by omega⟩ _ _ _ (by show l.val = _; try omega) (by congr 1; try omega)]
    rfl

/-- Lane tile 1 of the hidden values. -/
theorem sP1_apply (r : Fin 512) (l : Fin 128) :
    sP1 (F := Ideal) i x6 x7 x1 x2 x3 xc xa (ix2 r l) = hval i x6 x7 x1 x2 x3 xc r ⟨128 + l.val, by omega⟩ := by
  have hl := l.isLt
  have h9 := i1_lt i
  pointwise [sP1, k0_pay147, k0_pay146, k0_pay145, sC0, k0_pay138, s31, s32, s70, s75, s78, k0_pay136, k0_pay137, k0_pay142, k0_pay143, k0_pay144, s9, s11, s13, k0_pay132, k0_pay133, k0_pay134, k0_pay131, low, sA1_apply, sB1_apply, sA0_apply]
  unfold hval
  rw [if_neg (show ¬ (128 + l.val < 64) by omega)]
  by_cases h : l.val < 64
  · simp only [if_pos h]
    rw [sel1,
      col_eq x6 x7 x3 x1 (768 * (i 1).val) r ⟨128 + l.val - 64, by omega⟩ _ _ _ (by show 128 + l.val - 64 = _; try omega) (by congr 1; try omega),
      col_eq x6 x7 x3 x2 (768 * (i 1).val + 6784) r ⟨128 + l.val, by omega⟩ _ _ _ (by show 128 + l.val = _; try omega) (by congr 1; try omega)]
    rfl
  · simp only [if_neg h]
    rw [sel0,
      col_eq x6 x7 x3 x1 (768 * (i 1).val) r ⟨128 + l.val - 64, by omega⟩ _ _ _ (by show 128 + l.val - 64 = _; try omega) (by congr 1; try omega),
      col_eq x6 x7 x3 x2 (768 * (i 1).val + 6784) r ⟨128 + l.val, by omega⟩ _ _ _ (by show 128 + l.val = _; try omega) (by congr 1; try omega)]
    rfl

/-- Lane tile 2 of the hidden values. -/
theorem sP2_apply (r : Fin 512) (l : Fin 128) :
    sP2 (F := Ideal) i x6 x7 x1 x2 x3 xc xa (ix2 r l) = hval i x6 x7 x1 x2 x3 xc r ⟨256 + l.val, by omega⟩ := by
  have hl := l.isLt
  have h9 := i1_lt i
  pointwise [sP2, k0_pay151, sH2, k0_pay150, k0_pay149, k0_pay145, s75, k0_pay143, s9, s11, s13, k0_pay132, k0_pay133, k0_pay134, k0_pay131, low, sA2_apply, sB2_apply, sA1_apply]
  unfold hval
  rw [if_neg (show ¬ (256 + l.val < 64) by omega)]
  by_cases h : l.val < 64
  · simp only [if_pos h]
    rw [sel1,
      col_eq x6 x7 x3 x1 (768 * (i 1).val) r ⟨256 + l.val - 64, by omega⟩ _ _ _ (by show 256 + l.val - 64 = _; try omega) (by congr 1; try omega),
      col_eq x6 x7 x3 x2 (768 * (i 1).val + 6784) r ⟨256 + l.val, by omega⟩ _ _ _ (by show 256 + l.val = _; try omega) (by congr 1; try omega)]
    rfl
  · simp only [if_neg h]
    rw [sel0,
      col_eq x6 x7 x3 x1 (768 * (i 1).val) r ⟨256 + l.val - 64, by omega⟩ _ _ _ (by show 256 + l.val - 64 = _; try omega) (by congr 1; try omega),
      col_eq x6 x7 x3 x2 (768 * (i 1).val + 6784) r ⟨256 + l.val, by omega⟩ _ _ _ (by show 256 + l.val = _; try omega) (by congr 1; try omega)]
    rfl

/-- Lane tile 3 of the hidden values. -/
theorem sP3_apply (r : Fin 512) (l : Fin 128) :
    sP3 (F := Ideal) i x6 x7 x1 x2 x3 xc xa (ix2 r l) = hval i x6 x7 x1 x2 x3 xc r ⟨384 + l.val, by omega⟩ := by
  have hl := l.isLt
  have h9 := i1_lt i
  pointwise [sP3, k0_pay154, k0_pay153, k0_pay152, sC2, k0_pay149, s9, s11, s13, k0_pay132, k0_pay133, k0_pay134, k0_pay131, low, sA3_apply, sB3_apply, sA2_apply]
  unfold hval
  rw [if_neg (show ¬ (384 + l.val < 64) by omega)]
  by_cases h : l.val < 64
  · simp only [if_pos h]
    rw [sel1,
      col_eq x6 x7 x3 x1 (768 * (i 1).val) r ⟨384 + l.val - 64, by omega⟩ _ _ _ (by show 384 + l.val - 64 = _; try omega) (by congr 1; try omega),
      col_eq x6 x7 x3 x2 (768 * (i 1).val + 6784) r ⟨384 + l.val, by omega⟩ _ _ _ (by show 384 + l.val = _; try omega) (by congr 1; try omega)]
    rfl
  · simp only [if_neg h]
    rw [sel0,
      col_eq x6 x7 x3 x1 (768 * (i 1).val) r ⟨384 + l.val - 64, by omega⟩ _ _ _ (by show 384 + l.val - 64 = _; try omega) (by congr 1; try omega),
      col_eq x6 x7 x3 x2 (768 * (i 1).val + 6784) r ⟨384 + l.val, by omega⟩ _ _ _ (by show 384 + l.val = _; try omega) (by congr 1; try omega)]
    rfl

/-- Lane tile 4 of the hidden values. -/
theorem sP4_apply (r : Fin 512) (l : Fin 128) :
    sP4 (F := Ideal) i x6 x7 x1 x2 x3 xc xa (ix2 r l) = hval i x6 x7 x1 x2 x3 xc r ⟨512 + l.val, by omega⟩ := by
  have hl := l.isLt
  have h9 := i1_lt i
  pointwise [sP4, k0_pay158, k0_pay157, k0_pay156, sC3, k0_pay152, s9, s11, s13, k0_pay132, k0_pay133, k0_pay134, k0_pay131, low, sA4_apply, sB4_apply, sA3_apply]
  unfold hval
  rw [if_neg (show ¬ (512 + l.val < 64) by omega)]
  by_cases h : l.val < 64
  · simp only [if_pos h]
    rw [sel1,
      col_eq x6 x7 x3 x1 (768 * (i 1).val) r ⟨512 + l.val - 64, by omega⟩ _ _ _ (by show 512 + l.val - 64 = _; try omega) (by congr 1; try omega),
      col_eq x6 x7 x3 x2 (768 * (i 1).val + 6784) r ⟨512 + l.val, by omega⟩ _ _ _ (by show 512 + l.val = _; try omega) (by congr 1; try omega)]
    rfl
  · simp only [if_neg h]
    rw [sel0,
      col_eq x6 x7 x3 x1 (768 * (i 1).val) r ⟨512 + l.val - 64, by omega⟩ _ _ _ (by show 512 + l.val - 64 = _; try omega) (by congr 1; try omega),
      col_eq x6 x7 x3 x2 (768 * (i 1).val + 6784) r ⟨512 + l.val, by omega⟩ _ _ _ (by show 512 + l.val = _; try omega) (by congr 1; try omega)]
    rfl

/-- Lane tile 5 of the hidden values. -/
theorem sP5_apply (r : Fin 512) (l : Fin 128) :
    sP5 (F := Ideal) i x6 x7 x1 x2 x3 xc xa (ix2 r l) = hval i x6 x7 x1 x2 x3 xc r ⟨640 + l.val, by omega⟩ := by
  have hl := l.isLt
  have h9 := i1_lt i
  pointwise [sP5, k0_pay163, k0_pay162, k0_pay161, sC4, k0_pay156, s211, k0_pay160, s9, s11, s13, k0_pay132, k0_pay133, k0_pay134, k0_pay131, low, sA5_apply, sB5_apply, sA4_apply]
  unfold hval
  rw [if_neg (show ¬ (640 + l.val < 64) by omega)]
  by_cases h : l.val < 64
  · simp only [if_pos h]
    rw [sel1,
      col_eq x6 x7 x3 x1 (768 * (i 1).val) r ⟨640 + l.val - 64, by omega⟩ _ _ _ (by show 640 + l.val - 64 = _; try omega) (by congr 1; try omega),
      col_eq x6 x7 x3 x2 (768 * (i 1).val + 6784) r ⟨640 + l.val, by omega⟩ _ _ _ (by show 640 + l.val = _; try omega) (by congr 1; try omega)]
    rfl
  · simp only [if_neg h]
    rw [sel0,
      col_eq x6 x7 x3 x1 (768 * (i 1).val) r ⟨640 + l.val - 64, by omega⟩ _ _ _ (by show 640 + l.val - 64 = _; try omega) (by congr 1; try omega),
      col_eq x6 x7 x3 x2 (768 * (i 1).val + 6784) r ⟨640 + l.val, by omega⟩ _ _ _ (by show 640 + l.val = _; try omega) (by congr 1; try omega)]
    rfl

/-- The activation carried to the next column tile: its last 64 gate columns. -/
theorem stepC_apply (r : Fin 512) (l : Fin 128) (h : l.val < 64) :
    stepC (F := Ideal) i x6 x7 x1 x2 x3 xc xa (ix2 r l) = silu (col x6 x7 x1 x3 (768 * (i 1).val) r ⟨704 + l.val, by omega⟩) := by
  pointwise [stepC, k0_pay164, k0_pay161, s211, k0_pay160, s9, s11, k0_pay132, k0_pay133, k0_pay131, sA5_apply]
  rw [col_eq x6 x7 x3 x1 (768 * (i 1).val) r ⟨704 + l.val, by omega⟩ _ _ _ (by show 704 + l.val = _; try omega) (by congr 1; try omega)]
  rfl

/-- The lane-wise maximum, unrolled over the six lane tiles. -/
theorem stepM_apply (r : Fin 512) (l : Fin 128) :
    stepM (F := Ideal) i x6 x7 x1 x2 x3 xc xa (ix2 r l) =
      max (max (max (max (max (max (xa (ix2 r l)) (eabs (sP0 (F := Ideal) i x6 x7 x1 x2 x3 xc xa (ix2 r l)))) (eabs (sP1 (F := Ideal) i x6 x7 x1 x2 x3 xc xa (ix2 r l))))
        (eabs (sP2 (F := Ideal) i x6 x7 x1 x2 x3 xc xa (ix2 r l)))) (eabs (sP3 (F := Ideal) i x6 x7 x1 x2 x3 xc xa (ix2 r l))))
        (eabs (sP4 (F := Ideal) i x6 x7 x1 x2 x3 xc xa (ix2 r l)))) (eabs (sP5 (F := Ideal) i x6 x7 x1 x2 x3 xc xa (ix2 r l))) := by
  simp only [stepM, k0_pay165, sM4, k0_pay159, sM3, k0_pay155, sM1, k0_pay148, sM0, k0_pay141, sP0, k0_pay140, sP1, k0_pay147, sP2, k0_pay151, sP3, k0_pay154, sP4, k0_pay158, sP5, k0_pay163]
  pointwise [sH2]
  rfl

end Cert.KernelIdeal.Val
-- ==== Proof.KernelIdealCodes.lean ====
/- The quantised rows of the kernel over the extended reals, entry by entry: of the activations, and of the hidden values in the epilogue. -/
module

public import proofs.«01_k».proof.Proof.KernelIdealStepVal
public import proofs.«01_k».proof.Proof.Quant

@[expose] public section

set_option maxRecDepth 16384

noncomputable section

namespace Cert.KernelIdeal.Val

open Cert.KernelIdeal Cert.KernelIdeal.Gen Cert.KernelIdeal.Body Cert.Quant Cert.Spec
open Idealize.ShloMosaic Idealize.ShloMosaic.TcCoe Idealize.ShloMosaic.Tactic

section Generic
variable {F : FTy → Type} [FloatOps F]
/-- The reduction inside the exponent of the activations. -/
def red2 (x0 : Vec F S512x4096 .bf16) : FVec F S512x1 .f32 :=
  shapeCast S512x1 (multiReduction .maximumf [1] S512 (absf (k0_pay1 (F := F) x0)) 0xFF800000#32 reduces_S512x4096_S512 (.inl rfl) rfl) shapeCasts_S512_S512x1
/-- The reduction inside the exponent of the hidden values. -/
def red5 (M : Vec F S512x128 .f32) : FVec F S512x1 .f32 :=
  shapeCast S512x1 (multiReduction .maximumf [1] S512 M 0xFF800000#32 reduces_S512x128_S512 (.inl rfl) rfl) shapeCasts_S512_S512x1
theorem pay2_eq (x0 : Vec F S512x4096 .bf16) (y : S512x1.Idx) : k0_pay2 (F := F) x0 y = kerExp (red2 x0 y) := rfl
theorem pay5_eq (M : Vec F S512x128 .f32) (y : S512x1.Idx) : k0_pay4 (F := F) M y = kerExp (red5 M y) := rfl
/-- The scale of an exponent, as the kernel computes it. -/
def kscl (e : BitVec 32) : F .f32 := pow2 (FloatOps.sitofp .f32 e)
/-- The inverse scale of an exponent, as the kernel computes it. -/
def inv (e : BitVec 32) : F .f32 := pow2 (FloatOps.sitofp .f32 (IntOp.subi 0#32 e))
theorem pay3_eq (x0 : Vec F S512x4096 .bf16) (y : S512x1.Idx) : qs (F := F) x0 y = kscl (k0_pay2 x0 y) := rfl
theorem pay6_eq (M : Vec F S512x128 .f32) (y : S512x1.Idx) : k0_pay5 (F := F) M y = kscl (k0_pay4 M y) := rfl
theorem pay7_eq (M : Vec F S512x128 .f32) (y : S512x1.Idx) : k0_pay7 (F := F) (k0_pay4 M) k0_pay6 y = inv (k0_pay4 M y) := rfl
end Generic

/-- Over the extended reals the kernel's scale is the plain one. -/
theorem kscl_eq (e : BitVec 32) : kscl (F := Ideal) e = scl (F := Ideal) e := rfl
/-- The code of `v` over the extended reals. -/
theorem code_def (v : EReal) (e : BitVec 32) : code (F := Ideal) v e = min (Ideal.ofBits .f32 0x43E00000#32) (max (Ideal.ofBits .f32 0xC3E00000#32) (v * inv (F := Ideal) e)) := rfl

/-- The row maximum of the absolute values of the activations. -/
def rmax (x0 : FVec Ideal S512x4096 .bf16) (r : Fin 512) : EReal := Finset.univ.fold max (⊥ : EReal) fun k : Fin 4096 => eabs (x0 (ix2 r k))
/-- The maximum over the lanes. -/
def lmax (M : FVec Ideal S512x128 .f32) (r : Fin 512) : EReal := Finset.univ.fold max (⊥ : EReal) fun k : Fin 128 => M (ix2 r k)

theorem red2_apply (x0 : FVec Ideal S512x4096 .bf16) (r : Fin 512) : red2 (F := Ideal) x0 (ix2 r 0) = rmax x0 r := by
  pointwise [red2, k0_pay1]
  rw [bits_bot]; rfl
theorem pay2_apply (x0 : FVec Ideal S512x4096 .bf16) (r : Fin 512) : k0_pay2 (F := Ideal) x0 (ix2 r 0) = refExp (F := Ideal) (rmax x0 r) := by
  rw [← kerExp_eq, ← red2_apply, pay2_eq]

theorem red5_apply (M : FVec Ideal S512x128 .f32) (r : Fin 512) : red5 (F := Ideal) M (ix2 r 0) = lmax M r := by
  pointwise [red5]
  rw [bits_bot]; rfl
theorem pay5_apply (M : FVec Ideal S512x128 .f32) (r : Fin 512) : k0_pay4 (F := Ideal) M (ix2 r 0) = refExp (F := Ideal) (lmax M r) := by
  rw [← kerExp_eq, ← red5_apply, pay5_eq]

/-- The scale of a row of activations. -/
theorem qs_apply (x0 : FVec Ideal S512x4096 .bf16) (r : Fin 512) : qs (F := Ideal) x0 (ix2 r 0) = scl (F := Ideal) (refExp (F := Ideal) (rmax x0 r)) := by
  rw [← pay2_apply, pay3_eq, kscl_eq]
/-- The scale of a row of hidden values. -/
theorem pay6_apply (M : FVec Ideal S512x128 .f32) (r : Fin 512) : k0_pay5 (F := Ideal) M (ix2 r 0) = scl (F := Ideal) (refExp (F := Ideal) (lmax M r)) := by
  rw [← pay5_apply, pay6_eq, kscl_eq]
/-- The codes of a row of activations. -/
theorem qx_apply (x0 : FVec Ideal S512x4096 .bf16) (r : Fin 512) (l : Fin 4096) :
    qx (F := Ideal) x0 (ix2 r l) = code (F := Ideal) (x0 (ix2 r l)) (refExp (F := Ideal) (rmax x0 r)) := by
  rw [← pay2_apply]
  rw [code_def]
  unfold qx
  generalize k0_pay2 (F := Ideal) x0 = N
  pointwise [k0_pay128, k0_pay1]
  rfl

/-- The codes the epilogue stores as lane tile `t`. -/
theorem pay9_apply (M A B : FVec Ideal S512x128 .f32) (r : Fin 512) (l : Fin 128) :
    k0_pay9 (F := Ideal) k0_pay126 (k0_pay4 (F := Ideal) M) k0_pay6 A B (ix2 r l) =
      code (F := Ideal) (if l.val < 64 then A (ix2 r ⟨(l.val + 64) % 128, Nat.mod_lt _ (by decide)⟩) else B (ix2 r ⟨(l.val + 64) % 128, Nat.mod_lt _ (by decide)⟩))
        (refExp (F := Ideal) (lmax M r)) := by
  rw [← pay5_apply, code_def, ← pay7_eq]
  unfold k0_pay9
  generalize k0_pay7 (F := Ideal) (k0_pay4 (F := Ideal) M) k0_pay6 = N
  pointwise [k0_pay8, low]
  have e : (l.val + 128 - 64) % 128 = (l.val + 64) % 128 := by omega
  by_cases h : l.val < 64
  · simp only [if_pos h, e, sel1]
  · simp only [if_neg h, e, sel0]
/-- The codes the epilogue stores last. -/
theorem last_apply (M A : FVec Ideal S512x128 .f32) (r : Fin 512) (l : Fin 64) :
    k0_pay166 (F := Ideal) (k0_pay7 (k0_pay4 (F := Ideal) M) k0_pay6) (k0_pay124 A) (ix2 r l) =
      code (F := Ideal) (A (ix2 r ⟨l.val + 64, by omega⟩)) (refExp (F := Ideal) (lmax M r)) := by
  have hl := l.isLt
  rw [← pay5_apply, code_def, ← pay7_eq]
  generalize k0_pay7 (F := Ideal) (k0_pay4 (F := Ideal) M) k0_pay6 = N
  pointwise [k0_pay166, k0_pay124]
  have e : (l.val + 128 - 64) % 128 = l.val + 64 := by omega
  simp only [e]
end Cert.KernelIdeal.Val
-- ==== Proof.KernelIdealRunC.lean ====
/- The body's run at the last column tile of a row block, with what it stores. -/
module

public import proofs.«01_k».proof.Proof.KernelIdealRuns

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the last column tile of a row block: the pieces its stores leave in each buffer it writes, with the proof that from the
    inputs' buffers at their contents, and the others at theirs (those it overwrites whole at any), it runs to the end with
    those pieces written and every other buffer as it was. -/
def vrun_C (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    Σ' (L4 : List (View.Piece (Elt F) S512x1 .f32)), Σ' (L5 : List (View.Piece (Elt F) S512x6848 .fp8e4m3)), Σ' (L8 : List (View.Piece (Elt F) S512x6912 .f32)), Σ' (L9 : List (View.Piece (Elt F) S512x128 .f32)), { L10 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6 ∗ owns (c : Thread nD τ) arg9 fullShare x7 ∗ owns (c : Thread nD τ) arg10 fullShare xh ∗ owns (c : Thread nD τ) arg11 fullShare xa ∗ owns (c : Thread nD τ) arg12 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc c ↦[arg6.view.set]{fullShare} arg6.view.writes (Elt F) f L4) ∗ (∃ f, arg7.view.loc c ↦[arg7.view.set]{fullShare} arg7.view.writes (Elt F) f L5) ∗ owns (c : Thread nD τ) arg8 fullShare x6 ∗ owns (c : Thread nD τ) arg9 fullShare x7 ∗ (arg10.view.loc c ↦[arg10.view.set]{fullShare} arg10.view.writes (Elt F) (harg10.unread xh) L8) ∗ (arg11.view.loc c ↦[arg11.view.set]{fullShare} arg11.view.writes (Elt F) (harg11.unread xa) L9) ∗ (arg12.view.loc c ↦[arg12.view.set]{fullShare} arg12.view.writes (Elt F) (harg12.unread xc) L10)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_swiglu_gate_up_fp8_eq_skeleton]; unfold cc0_swiglu_gate_up_fp8_skel
    simp only [k0_part25_eq_skeleton, k0_part20_eq_skeleton, k0_part21_eq_skeleton, k0_part22_eq_skeleton, k0_part23_eq_skeleton, k0_part24_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [H6]
    · iexists _; isplitr; · ipureintro; exact harg8.read_unread _
      iexact H6
    isplitl [H7]
    · iexists _; isplitr; · ipureintro; exact harg9.read_unread _
      iexact H7
    isplitl [H8]
    · iexact H8
    isplitl [H9]
    · iexact H9
    iexact H10

end Cert.KernelIdeal.Body

end
-- ==== Proof.KernelIdealTripleC.lean ====
/- The body's triple at the last column tile of a row block, with what it leaves in every buffer. -/
module

public import proofs.«01_k».proof.Proof.KernelIdealStep
public import proofs.«01_k».proof.Proof.KernelIdealRunC

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of `arg10` at the last column tile of a row block. -/
theorem pcs_C_arg10 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.1 = stepH i x6 x7 x1 x2 x3 xc xa := by
  have e : (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.1 = stepH i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa)) := by
    unfold vrun_C; rfl
  rw [e, rdw_S512x4096 harg8, rdw_S512x1 harg9, rdw_S512x128 harg12, rdw_S512x128 harg11, rdw_S4096x768 harg3, rdw_S4096x768 harg4, harg5.read_unread]

/-- The pieces of `arg11` at the last column tile of a row block. -/
theorem pcs_C_arg11 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.1 = [⟨Rect.unit (s := S512x128) ![0, 0] S512x128.size inb_S512x128_S512x128_0_0, stepM i x6 x7 x1 x2 x3 xc xa⟩] := by
  have e : (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.1 = [⟨Rect.unit (s := S512x128) ![0, 0] S512x128.size inb_S512x128_S512x128_0_0, stepM i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa))⟩] := by
    unfold vrun_C; rfl
  rw [e, rdw_S512x4096 harg8, rdw_S512x1 harg9, rdw_S512x128 harg12, rdw_S512x128 harg11, rdw_S4096x768 harg3, rdw_S4096x768 harg4, harg5.read_unread]

/-- The pieces of `arg12` at the last column tile of a row block. -/
theorem pcs_C_arg12 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.2.1 = [⟨Rect.unit (s := S512x128) ![0, 0] S512x128.size inb_S512x128_S512x128_0_0, stepC i x6 x7 x1 x2 x3 xc xa⟩] := by
  have e : (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.2.1 = [⟨Rect.unit (s := S512x128) ![0, 0] S512x128.size inb_S512x128_S512x128_0_0, stepC i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa))⟩] := by
    unfold vrun_C; rfl
  rw [e, rdw_S512x4096 harg8, rdw_S512x1 harg9, rdw_S512x128 harg12, rdw_S512x128 harg11, rdw_S4096x768 harg3, rdw_S4096x768 harg4, harg5.read_unread]

/-- The pieces of `arg6` at the last column tile of a row block. -/
theorem pcs_C_arg6 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).1 = [⟨Rect.unit (s := S512x1) ![0, 0] S512x1.size inb_S512x1_S512x1_0_0, k0_pay5 (arg11.view.readCov (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.1 (Rect.unit (s := S512x128) ![0, 0] S512x128.size inb_S512x128_S512x128_0_0).toLoadRect)⟩] := by
  unfold vrun_C; rfl

/-- The pieces of `arg7` at the last column tile of a row block. -/
theorem pcs_C_arg7 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) :
    (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.1 = epC (arg11.view.readCov (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.1 (Rect.unit (s := S512x128) ![0, 0] S512x128.size inb_S512x128_S512x128_0_0).toLoadRect) (arg10.view.read (Elt F) (arg10.view.writes (Elt F) (harg10.unread xh) (vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.1)) := by
  unfold vrun_C; rfl

/-- The epilogue's stores cover the array of codes. -/
theorem epC_cover (M : Vec F S512x128 .f32) (H : Vec F S512x6912 .f32) (y : S512x6848.Idx) : ∃ p ∈ epC M H, y ∈ p.1.set := by
  have h0 : (y 0).val < 512 := (y 0).isLt
  have h1 : (y 1).val < 6848 := (y 1).isLt
  by_cases hc : (y 1).val < 6784
  · refine ⟨epPiece M H ⟨(y 1).val / 128, by omega⟩, List.mem_cons_of_mem _ (List.mem_map.mpr ⟨_, by simp, rfl⟩), ?_⟩
    rw [epPiece, Rect.mem_set_unit]; intro a; fin_cases a
    · exact ⟨Nat.zero_le _, by show (y 0).val < 0 + 512; omega⟩
    · exact ⟨by show 128 * ((y 1).val / 128) ≤ (y 1).val; omega, by show (y 1).val < 128 * ((y 1).val / 128) + 128; omega⟩
  · refine ⟨epLast M H, List.mem_cons_self, ?_⟩
    rw [epLast, Rect.mem_set_unit]; intro a; fin_cases a
    · exact ⟨Nat.zero_le _, by show (y 0).val < 0 + 512; omega⟩
    · exact ⟨by show 6784 ≤ (y 1).val; omega, by show (y 1).val < 6784 + 64; omega⟩

set_option maxHeartbeats 3200000 in
/-- The body's triple at the last column tile of a row block, with what it leaves in every buffer. -/
theorem body_C (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : cond0_1 i)
    (x0 : Vec F S512x4096 .bf16) (x1 : Vec F S4096x768 .fp8e4m3) (x2 : Vec F S4096x768 .fp8e4m3) (x3 : Vec F S1x13696 .f32) (x6 : Vec F S512x4096 .fp8e4m3) (x7 : Vec F S512x1 .f32) (xh : Vec F S512x6912 .f32) (xa : Vec F S512x128 .f32) (xc : Vec F S512x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare x6 ∗ owns (c : Thread nD τ) arg9 fullShare x7 ∗ owns (c : Thread nD τ) arg10 fullShare xh ∗ owns (c : Thread nD τ) arg11 fullShare xa ∗ owns (c : Thread nD τ) arg12 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 (stepM i x6 x7 x1 x2 x3 xc xa)) ∗ owns (c : Thread nD τ) arg7 fullShare (View.canon (epC (stepM i x6 x7 x1 x2 x3 xc xa) (over xh (stepH i x6 x7 x1 x2 x3 xc xa)))) ∗ owns (c : Thread nD τ) arg8 fullShare x6 ∗ owns (c : Thread nD τ) arg9 fullShare x7 ∗ owns (c : Thread nD τ) arg10 fullShare (over xh (stepH i x6 x7 x1 x2 x3 xc xa)) ∗ owns (c : Thread nD τ) arg11 fullShare (stepM i x6 x7 x1 x2 x3 xc xa) ∗ owns (c : Thread nD τ) arg12 fullShare (stepC i x6 x7 x1 x2 x3 xc xa)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply ((vrun_C c i arg2 harg2 arg3 harg3 arg4 harg4 arg5 harg5 arg6 harg6 arg7 harg7 arg8 harg8 arg9 harg9 arg10 harg10 arg11 harg11 arg12 harg12 hc0 hc1 x0 x1 x2 x3 x6 x7 xh xa xc).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, ⟨%f4, H4⟩, ⟨%f5, H5⟩, H6, H7, H8, H9, H10⟩
  iapply Hk
  isplitl [H0]
  · iexact H0
  isplitl [H1]
  · iexact H1
  isplitl [H2]
  · iexact H2
  isplitl [H3]
  · iexact H3
  isplitl [H4]
  · unfold owns; iexists _; isplitr; swap; · iexact H4
    ipureintro
    rw [pcs_C_arg6 c i arg2 harg2 arg3 harg3 arg4 harg4 arg5 harg5 arg6 harg6 arg7 harg7 arg8 harg8 arg9 harg9 arg10 harg10 arg11 harg11 arg12 harg12 hc0 hc1 x0 x1 x2 x3 x6 x7 xh xa xc, rd1_S512x1, pcs_C_arg11 c i arg2 harg2 arg3 harg3 arg4 harg4 arg5 harg5 arg6 harg6 arg7 harg7 arg8 harg8 arg9 harg9 arg10 harg10 arg11 harg11 arg12 harg12 hc0 hc1 x0 x1 x2 x3 x6 x7 xh xa xc, rcw_S512x128]
  isplitl [H5]
  · unfold owns; iexists _; isplitr; swap; · iexact H5
    ipureintro
    rw [pcs_C_arg7 c i arg2 harg2 arg3 harg3 arg4 harg4 arg5 harg5 arg6 harg6 arg7 harg7 arg8 harg8 arg9 harg9 arg10 harg10 arg11 harg11 arg12 harg12 hc0 hc1 x0 x1 x2 x3 x6 x7 xh xa xc, View.read_writes_eq_canon _ _ _ (epC_cover _ _), pcs_C_arg11 c i arg2 harg2 arg3 harg3 arg4 harg4 arg5 harg5 arg6 harg6 arg7 harg7 arg8 harg8 arg9 harg9 arg10 harg10 arg11 harg11 arg12 harg12 hc0 hc1 x0 x1 x2 x3 x6 x7 xh xa xc, pcs_C_arg10 c i arg2 harg2 arg3 harg3 arg4 harg4 arg5 harg5 arg6 harg6 arg7 harg7 arg8 harg8 arg9 harg9 arg10 harg10 arg11 harg11 arg12 harg12 hc0 hc1 x0 x1 x2 x3 x6 x7 xh xa xc, read_writes_over harg10, rcw_S512x128]
  isplitl [H6]
  · iexact H6
  isplitl [H7]
  · iexact H7
  isplitl [H8]
  · unfold owns; iexists _; isplitr; swap; · iexact H8
    ipureintro
    rw [pcs_C_arg10 c i arg2 harg2 arg3 harg3 arg4 harg4 arg5 harg5 arg6 harg6 arg7 harg7 arg8 harg8 arg9 harg9 arg10 harg10 arg11 harg11 arg12 harg12 hc0 hc1 x0 x1 x2 x3 x6 x7 xh xa xc, read_writes_over harg10]
  isplitl [H9]
  · unfold owns; iexists _; isplitr; swap; · iexact H9
    ipureintro
    rw [pcs_C_arg11 c i arg2 harg2 arg3 harg3 arg4 harg4 arg5 harg5 arg6 harg6 arg7 harg7 arg8 harg8 arg9 harg9 arg10 harg10 arg11 harg11 arg12 harg12 hc0 hc1 x0 x1 x2 x3 x6 x7 xh xa xc, rd1_S512x128]
  unfold owns; iexists _; isplitr; swap; · iexact H10
  ipureintro
  rw [pcs_C_arg12 c i arg2 harg2 arg3 harg3 arg4 harg4 arg5 harg5 arg6 harg6 arg7 harg7 arg8 harg8 arg9 harg9 arg10 harg10 arg11 harg11 arg12 harg12 hc0 hc1 x0 x1 x2 x3 x6 x7 xh xa xc, rd1_S512x128]

end Cert.KernelIdeal.Body

end
-- ==== Proof.KernelIdealOver.lean ====
/- What the stores of one column tile, and of the epilogue, leave, over the extended reals. -/
module

public import proofs.«01_k».proof.Proof.KernelIdealCodes
public import proofs.«01_k».proof.Proof.KernelIdealTripleC
public import Idealize.ShloMosaic.Lib.Pipeline.CanonAppend

@[expose] public section

set_option maxRecDepth 16384

noncomputable section

namespace Cert.KernelIdeal.Val

open Cert.KernelIdeal Cert.KernelIdeal.Gen Cert.KernelIdeal.Body Cert.Quant Cert.Spec
open Idealize.ShloMosaic Idealize.ShloMosaic.TcCoe Idealize.ShloMosaic.Tactic

variable (i : grid0.Coords) (x6 : FVec Ideal S512x4096 .fp8e4m3) (x7 : FVec Ideal S512x1 .f32) (x1 x2 : FVec Ideal S4096x768 .fp8e4m3) (x3 : FVec Ideal S1x13696 .f32) (xc xa : FVec Ideal S512x128 .f32)

/-- The hidden values one column tile stores, by position in the whole array. -/
def hG (y : S512x6912.Idx) : EReal :=
  if h : 768 * (i 1).val ≤ (y 1).val ∧ (y 1).val < 768 * (i 1).val + 768 then
    hval i x6 x7 x1 x2 x3 xc ⟨(y 0).val, (y 0).isLt⟩ ⟨(y 1).val - 768 * (i 1).val, by omega⟩ else 0

theorem hG_of (y : S512x6912.Idx) (r : Fin 512) (q : Fin 768) (h0 : (y 0).val = r.val) (h1 : (y 1).val = 768 * (i 1).val + q.val) :
    hG i x6 x7 x1 x2 x3 xc y = hval i x6 x7 x1 x2 x3 xc r q := by
  have hq := q.isLt
  unfold hG
  rw [dif_pos ⟨by omega, by omega⟩]
  congr 1
  · exact Fin.ext h0
  · exact Fin.ext (by show (y 1).val - 768 * (i 1).val = q.val; omega)

theorem piece0 (x : S512x128.Idx) :
    sP0 (F := Ideal) i x6 x7 x1 x2 x3 xc xa x = hG i x6 x7 x1 x2 x3 xc ((Rect.unit (s := S512x6912) (k0_off3 i 0#32) S512x128.size (k0_off3_inb i 0)).emb x) := by
  obtain ⟨r, l, rfl⟩ : ∃ (r : Fin 512) (l : Fin 128), x = ix2 r l := ⟨x 0, x 1, eq_ix2 x⟩
  have e0 : k0_off3 i 0#32 0 = 0 := congrFun (k0_off3_eq i 0) 0
  have e1 : k0_off3 i 0#32 1 = 768 * (i 1).val + 0 := congrFun (k0_off3_eq i 0) 1
  rw [sP0_apply]
  refine (hG_of i x6 x7 x1 x2 x3 xc _ r _ ?_ ?_).symm
  · show k0_off3 i 0#32 0 + 1 * r.val = r.val; omega
  · show k0_off3 i 0#32 1 + 1 * l.val = 768 * (i 1).val + _; show k0_off3 i 0#32 1 + 1 * l.val = 768 * (i 1).val + (l.val); omega
theorem piece1 (x : S512x128.Idx) :
    sP1 (F := Ideal) i x6 x7 x1 x2 x3 xc xa x = hG i x6 x7 x1 x2 x3 xc ((Rect.unit (s := S512x6912) (k0_off3 i 128#32) S512x128.size (k0_off3_inb i 1)).emb x) := by
  obtain ⟨r, l, rfl⟩ : ∃ (r : Fin 512) (l : Fin 128), x = ix2 r l := ⟨x 0, x 1, eq_ix2 x⟩
  have e0 : k0_off3 i 128#32 0 = 0 := congrFun (k0_off3_eq i 1) 0
  have e1 : k0_off3 i 128#32 1 = 768 * (i 1).val + 128 := congrFun (k0_off3_eq i 1) 1
  rw [sP1_apply]
  refine (hG_of i x6 x7 x1 x2 x3 xc _ r _ ?_ ?_).symm
  · show k0_off3 i 128#32 0 + 1 * r.val = r.val; omega
  · show k0_off3 i 128#32 1 + 1 * l.val = 768 * (i 1).val + _; show k0_off3 i 128#32 1 + 1 * l.val = 768 * (i 1).val + (128 + l.val); omega
theorem piece2 (x : S512x128.Idx) :
    sP2 (F := Ideal) i x6 x7 x1 x2 x3 xc xa x = hG i x6 x7 x1 x2 x3 xc ((Rect.unit (s := S512x6912) (k0_off3 i 256#32) S512x128.size (k0_off3_inb i 2)).emb x) := by
  obtain ⟨r, l, rfl⟩ : ∃ (r : Fin 512) (l : Fin 128), x = ix2 r l := ⟨x 0, x 1, eq_ix2 x⟩
  have e0 : k0_off3 i 256#32 0 = 0 := congrFun (k0_off3_eq i 2) 0
  have e1 : k0_off3 i 256#32 1 = 768 * (i 1).val + 256 := congrFun (k0_off3_eq i 2) 1
  rw [sP2_apply]
  refine (hG_of i x6 x7 x1 x2 x3 xc _ r _ ?_ ?_).symm
  · show k0_off3 i 256#32 0 + 1 * r.val = r.val; omega
  · show k0_off3 i 256#32 1 + 1 * l.val = 768 * (i 1).val + _; show k0_off3 i 256#32 1 + 1 * l.val = 768 * (i 1).val + (256 + l.val); omega
theorem piece3 (x : S512x128.Idx) :
    sP3 (F := Ideal) i x6 x7 x1 x2 x3 xc xa x = hG i x6 x7 x1 x2 x3 xc ((Rect.unit (s := S512x6912) (k0_off3 i 384#32) S512x128.size (k0_off3_inb i 3)).emb x) := by
  obtain ⟨r, l, rfl⟩ : ∃ (r : Fin 512) (l : Fin 128), x = ix2 r l := ⟨x 0, x 1, eq_ix2 x⟩
  have e0 : k0_off3 i 384#32 0 = 0 := congrFun (k0_off3_eq i 3) 0
  have e1 : k0_off3 i 384#32 1 = 768 * (i 1).val + 384 := congrFun (k0_off3_eq i 3) 1
  rw [sP3_apply]
  refine (hG_of i x6 x7 x1 x2 x3 xc _ r _ ?_ ?_).symm
  · show k0_off3 i 384#32 0 + 1 * r.val = r.val; omega
  · show k0_off3 i 384#32 1 + 1 * l.val = 768 * (i 1).val + _; show k0_off3 i 384#32 1 + 1 * l.val = 768 * (i 1).val + (384 + l.val); omega
theorem piece4 (x : S512x128.Idx) :
    sP4 (F := Ideal) i x6 x7 x1 x2 x3 xc xa x = hG i x6 x7 x1 x2 x3 xc ((Rect.unit (s := S512x6912) (k0_off3 i 512#32) S512x128.size (k0_off3_inb i 4)).emb x) := by
  obtain ⟨r, l, rfl⟩ : ∃ (r : Fin 512) (l : Fin 128), x = ix2 r l := ⟨x 0, x 1, eq_ix2 x⟩
  have e0 : k0_off3 i 512#32 0 = 0 := congrFun (k0_off3_eq i 4) 0
  have e1 : k0_off3 i 512#32 1 = 768 * (i 1).val + 512 := congrFun (k0_off3_eq i 4) 1
  rw [sP4_apply]
  refine (hG_of i x6 x7 x1 x2 x3 xc _ r _ ?_ ?_).symm
  · show k0_off3 i 512#32 0 + 1 * r.val = r.val; omega
  · show k0_off3 i 512#32 1 + 1 * l.val = 768 * (i 1).val + _; show k0_off3 i 512#32 1 + 1 * l.val = 768 * (i 1).val + (512 + l.val); omega
theorem piece5 (x : S512x128.Idx) :
    sP5 (F := Ideal) i x6 x7 x1 x2 x3 xc xa x = hG i x6 x7 x1 x2 x3 xc ((Rect.unit (s := S512x6912) (k0_off3 i 640#32) S512x128.size (k0_off3_inb i 5)).emb x) := by
  obtain ⟨r, l, rfl⟩ : ∃ (r : Fin 512) (l : Fin 128), x = ix2 r l := ⟨x 0, x 1, eq_ix2 x⟩
  have e0 : k0_off3 i 640#32 0 = 0 := congrFun (k0_off3_eq i 5) 0
  have e1 : k0_off3 i 640#32 1 = 768 * (i 1).val + 640 := congrFun (k0_off3_eq i 5) 1
  rw [sP5_apply]
  refine (hG_of i x6 x7 x1 x2 x3 xc _ r _ ?_ ?_).symm
  · show k0_off3 i 640#32 0 + 1 * r.val = r.val; omega
  · show k0_off3 i 640#32 1 + 1 * l.val = 768 * (i 1).val + _; show k0_off3 i 640#32 1 + 1 * l.val = 768 * (i 1).val + (640 + l.val); omega

/-- Pieces that miss an index leave it to the later ones. -/
theorem canon_append_of_not_mem {s : Shape} {e : EltTy} (L' : List (View.Piece (Elt Ideal) s e)) (y : s.Idx) :
    ∀ (L : List (View.Piece (Elt Ideal) s e)) (_ : ∀ p ∈ L, y ∉ p.1.set), View.canon (L ++ L') y = View.canon L' y
  | [], _ => rfl
  | p :: L, h => by
    rw [List.cons_append, View.canon_cons_of_not_mem p _ (h p List.mem_cons_self)]
    exact canon_append_of_not_mem L' y L fun q hq => h q (List.mem_cons_of_mem _ hq)

/-- After a column tile's stores, inside the tile: the tile's hidden values. -/
theorem over_in (xh : FVec Ideal S512x6912 .f32) (r : Fin 512) (c : Fin 6912) (q : Fin 768) (hc : c.val = 768 * (i 1).val + q.val) :
    over (F := Ideal) (e := .f32) xh (stepH (F := Ideal) i x6 x7 x1 x2 x3 xc xa) (ix2 r c) = hval i x6 x7 x1 x2 x3 xc r q := by
  have hq := q.isLt
  have hr := r.isLt
  refine (View.canon_append_of_pieces (Val := Elt Ideal) (e := .f32) (hG i x6 x7 x1 x2 x3 xc) _ (stepH (F := Ideal) i x6 x7 x1 x2 x3 xc xa) ?_ (ix2 r c) ?_).trans
    (hG_of i x6 x7 x1 x2 x3 xc _ r q rfl hc)
  · intro p hp
    unfold stepH at hp
    simp only [List.mem_cons, List.not_mem_nil, or_false] at hp
    rcases hp with rfl | rfl | rfl | rfl | rfl | rfl
    · exact piece5 i x6 x7 x1 x2 x3 xc xa
    · exact piece4 i x6 x7 x1 x2 x3 xc xa
    · exact piece3 i x6 x7 x1 x2 x3 xc xa
    · exact piece2 i x6 x7 x1 x2 x3 xc xa
    · exact piece1 i x6 x7 x1 x2 x3 xc xa
    · exact piece0 i x6 x7 x1 x2 x3 xc xa
  · have hm : q.val / 128 < 6 := by omega
    have key : ∀ (n : ℕ) (o : Fin 2 → ℕ) (inb : ∀ a, o a + S512x128.size a ≤ S512x6912.size a), o = ![0, 768 * (i 1).val + 128 * n] → q.val / 128 = n →
        (ix2 r c : S512x6912.Idx) ∈ (Rect.unit (s := S512x6912) o S512x128.size inb).set := by
      intro n o inb ho hn
      subst ho
      rw [Rect.mem_set_unit]; intro a; fin_cases a
      · exact ⟨Nat.zero_le _, by show r.val < 0 + 512; omega⟩
      · exact ⟨by show 768 * (i 1).val + 128 * n ≤ c.val; omega, by show c.val < 768 * (i 1).val + 128 * n + 128; omega⟩
    unfold stepH
    rcases (by omega : q.val / 128 = 5 ∨ q.val / 128 = 4 ∨ q.val / 128 = 3 ∨ q.val / 128 = 2 ∨ q.val / 128 = 1 ∨ q.val / 128 = 0) with h | h | h | h | h | h
    · exact ⟨_, List.mem_of_getElem? (i := 0) rfl, key 5 _ (k0_off3_inb i 5) (k0_off3_eq i 5) h⟩
    · exact ⟨_, List.mem_of_getElem? (i := 1) rfl, key 4 _ (k0_off3_inb i 4) (k0_off3_eq i 4) h⟩
    · exact ⟨_, List.mem_of_getElem? (i := 2) rfl, key 3 _ (k0_off3_inb i 3) (k0_off3_eq i 3) h⟩
    · exact ⟨_, List.mem_of_getElem? (i := 3) rfl, key 2 _ (k0_off3_inb i 2) (k0_off3_eq i 2) h⟩
    · exact ⟨_, List.mem_of_getElem? (i := 4) rfl, key 1 _ (k0_off3_inb i 1) (k0_off3_eq i 1) h⟩
    · exact ⟨_, List.mem_of_getElem? (i := 5) rfl, key 0 _ (k0_off3_inb i 0) (k0_off3_eq i 0) h⟩

/-- After a column tile's stores, outside the tile: what was there. -/
theorem over_out (xh : FVec Ideal S512x6912 .f32) (r : Fin 512) (c : Fin 6912) (hc : c.val < 768 * (i 1).val ∨ 768 * (i 1).val + 768 ≤ c.val) :
    over (F := Ideal) (e := .f32) xh (stepH (F := Ideal) i x6 x7 x1 x2 x3 xc xa) (ix2 r c) = xh (ix2 r c) := by
  have key : ∀ (n : ℕ) (o : Fin 2 → ℕ) (inb : ∀ a, o a + S512x128.size a ≤ S512x6912.size a), o = ![0, 768 * (i 1).val + 128 * n] → n < 6 →
      (ix2 r c : S512x6912.Idx) ∉ (Rect.unit (s := S512x6912) o S512x128.size inb).set := by
    intro n o inb ho hn hm
    subst ho
    have h1 := (Rect.mem_set_unit.1 hm) 1
    have h2 : 768 * (i 1).val + 128 * n ≤ c.val := h1.1
    have h3 : c.val < 768 * (i 1).val + 128 * n + 128 := h1.2
    omega
  unfold over
  rw [canon_append_of_not_mem _ _ _ (fun p hp => ?_)]
  swap
  · unfold stepH at hp
    simp only [List.mem_cons, List.not_mem_nil, or_false] at hp
    rcases hp with rfl | rfl | rfl | rfl | rfl | rfl
    · exact key 5 _ (k0_off3_inb i 5) (k0_off3_eq i 5) (by decide)
    · exact key 4 _ (k0_off3_inb i 4) (k0_off3_eq i 4) (by decide)
    · exact key 3 _ (k0_off3_inb i 3) (k0_off3_eq i 3) (by decide)
    · exact key 2 _ (k0_off3_inb i 2) (k0_off3_eq i 2) (by decide)
    · exact key 1 _ (k0_off3_inb i 1) (k0_off3_eq i 1) (by decide)
    · exact key 0 _ (k0_off3_inb i 0) (k0_off3_eq i 0) (by decide)
  have e := View.canon_cons_emb (Val := Elt Ideal) (e := .f32) (Rect.whole S512x6912) xh [] (ix2 r c)
  rw [Rect.emb_whole_apply] at e
  exact e

/-- The lane-wise maximum is below `z` when the old one and the tile's entries in that lane are. -/
theorem stepM_le (r : Fin 512) (l : Fin 128) (z : EReal) :
    stepM (F := Ideal) i x6 x7 x1 x2 x3 xc xa (ix2 r l) ≤ z ↔
      xa (ix2 r l) ≤ z ∧ ∀ n : Fin 6, eabs (hval i x6 x7 x1 x2 x3 xc r ⟨128 * n.val + l.val, by omega⟩) ≤ z := by
  rw [stepM_apply, sP0_apply, sP1_apply, sP2_apply, sP3_apply, sP4_apply, sP5_apply]
  simp only [max_le_iff]
  constructor
  · rintro ⟨⟨⟨⟨⟨⟨h, h0⟩, h1⟩, h2⟩, h3⟩, h4⟩, h5⟩
    refine ⟨h, fun n => ?_⟩
    fin_cases n
    · simpa using h0
    · exact h1
    · exact h2
    · exact h3
    · exact h4
    · exact h5
  · rintro ⟨h, hn⟩
    exact ⟨⟨⟨⟨⟨⟨h, by simpa using hn 0⟩, hn 1⟩, hn 2⟩, hn 3⟩, hn 4⟩, hn 5⟩

/-- The epilogue's codes by position. -/
def cG (M : FVec Ideal S512x128 .f32) (H : FVec Ideal S512x6912 .f32) (y : S512x6848.Idx) : EReal :=
  code (F := Ideal) (H (ix2 ⟨(y 0).val, (y 0).isLt⟩ ⟨(y 1).val + 64, Nat.add_lt_add_right (m := 6848) (y 1).isLt 64⟩)) (refExp (F := Ideal) (lmax M ⟨(y 0).val, (y 0).isLt⟩))

theorem cG_of (M : FVec Ideal S512x128 .f32) (H : FVec Ideal S512x6912 .f32) (y : S512x6848.Idx) (r : Fin 512) (c : Fin 6912) (h0 : (y 0).val = r.val)
    (h1 : (y 1).val + 64 = c.val) : cG M H y = code (F := Ideal) (H (ix2 r c)) (refExp (F := Ideal) (lmax M r)) := by
  have e0 : (⟨(y 0).val, (y 0).isLt⟩ : Fin 512) = r := Fin.ext h0
  have e1 : (⟨(y 1).val + 64, Nat.add_lt_add_right (m := 6848) (y 1).isLt 64⟩ : Fin 6912) = c := Fin.ext h1
  unfold cG; rw [e0, e1]

/-- A lane tile of the hidden values at a lane. -/
theorem hTile_apply (H : FVec Ideal S512x6912 .f32) (t : Fin 54) (r : Fin 512) (l : Fin 128) (c : Fin 6912) (hc : 128 * t.val + l.val = c.val) :
    hTile (F := Ideal) H t (ix2 r l) = H (ix2 r c) := by
  refine View.ld_unit_apply_of (Val := Elt Ideal) (e := .f32) H _ _ _ _ (ix2 r c) fun a => ?_
  fin_cases a
  · show r.val = 0 + r.val; omega
  · show c.val = 128 * t.val + l.val; omega

/-- The epilogue's codes: the hidden value 64 columns further. -/
theorem epC_apply (M : FVec Ideal S512x128 .f32) (H : FVec Ideal S512x6912 .f32) (r : Fin 512) (c : Fin 6848) :
    View.canon (Val := Elt Ideal) (epC (F := Ideal) M H) (ix2 r c) = code (F := Ideal) (H (ix2 r ⟨c.val + 64, by omega⟩)) (refExp (F := Ideal) (lmax M r)) := by
  have hcov := epC_cover (F := Ideal) M H (ix2 r c)
  refine (View.canon_apply_of_pieces (Val := Elt Ideal) (e := .fp8e4m3) (cG M H) (epC (F := Ideal) M H) ?_ (ix2 r c) hcov).trans rfl
  intro p hp x
  unfold epC at hp
  rcases List.mem_cons.1 hp with rfl | hp
  · obtain ⟨r, l, rfl⟩ : ∃ (r : Fin 512) (l : Fin 64), x = ix2 r l := ⟨x 0, x 1, eq_ix2 x⟩
    have hl := l.isLt
    refine (last_apply M (hTile (F := Ideal) H 53) r l).trans ?_
    rw [hTile_apply H 53 r _ ⟨6848 + l.val, by omega⟩ (by show 128 * 53 + (l.val + 64) = 6848 + l.val; omega)]
    refine (cG_of M H _ r _ ?_ ?_).symm
    · show 0 + 1 * r.val = r.val; omega
    · show 6784 + 1 * l.val + 64 = 6848 + l.val; omega
  · obtain ⟨t, _, rfl⟩ := List.mem_map.1 hp
    obtain ⟨r, l, rfl⟩ : ∃ (r : Fin 512) (l : Fin 128), x = ix2 r l := ⟨x 0, x 1, eq_ix2 x⟩
    have hl := l.isLt
    have ht := t.isLt
    refine (pay9_apply M (hTile (F := Ideal) H t.castSucc) (hTile (F := Ideal) H t.succ) r l).trans ?_
    have ev : (if l.val < 64 then hTile (F := Ideal) H t.castSucc (ix2 r ⟨(l.val + 64) % 128, Nat.mod_lt _ (by decide)⟩)
        else hTile (F := Ideal) H t.succ (ix2 r ⟨(l.val + 64) % 128, Nat.mod_lt _ (by decide)⟩)) = H (ix2 r ⟨128 * t.val + l.val + 64, by omega⟩) := by
      by_cases h : l.val < 64
      · rw [if_pos h, hTile_apply H t.castSucc r _ ⟨128 * t.val + l.val + 64, by omega⟩ (by show 128 * t.val + (l.val + 64) % 128 = 128 * t.val + l.val + 64; omega)]
      · rw [if_neg h, hTile_apply H t.succ r _ ⟨128 * t.val + l.val + 64, by omega⟩ (by show 128 * (t.val + 1) + (l.val + 64) % 128 = 128 * t.val + l.val + 64; omega)]
    rw [ev]
    refine (cG_of M H _ r _ ?_ ?_).symm
    · show 0 + 1 * r.val = r.val; omega
    · show 128 * t.val + 1 * l.val + 64 = 128 * t.val + l.val + 64; omega

end Cert.KernelIdeal.Val
-- ==== Proof.KernelIdealInv.lean ====
/- What the scratch buffers hold between the column tiles of one row block, and what the last tile's epilogue makes
   of it. -/
module

public import proofs.«01_k».proof.Proof.KernelIdealOver

@[expose] public section

set_option maxRecDepth 16384

noncomputable section

namespace Cert.KernelIdeal.Val

open Cert.KernelIdeal Cert.KernelIdeal.Gen Cert.KernelIdeal.Body Cert.Quant Cert.Spec
open Idealize.ShloMosaic Idealize.ShloMosaic.TcCoe Idealize.ShloMosaic.Tactic

theorem eabs_nonneg (y : EReal) : 0 ≤ eabs y := by
  unfold eabs
  rcases le_total 0 y with h | h
  · exact le_max_of_le_left h
  · exact le_max_of_le_right (EReal.neg_nonneg.mpr h)

theorem eabs_zero : eabs 0 = 0 := by unfold eabs; rw [neg_zero, max_self]

/-- Row `r` of row block `b`. -/
def row (b : Fin 24) (r : Fin 512) : Fin 12288 := ⟨512 * b.val + r.val, by omega⟩

variable (X : Fin 12288 → Fin 4096 → EReal) (W : Fin 4096 → Fin 13696 → EReal) (S : Fin 13696 → EReal)

/-- The hidden values as the scratch buffer lays them out: 64 zero columns first. -/
def Hs (R : Fin 12288) (c : Fin 6912) : EReal := if h : c.val < 64 then 0 else hid X W S R ⟨c.val - 64, by omega⟩

/-- After `n` column tiles of row block `b`: the hidden values' first `768 n` columns are in place, the lane maxima
    are theirs, and the carried gate values are those of the last 64 gate columns. -/
structure Inv (b : Fin 24) (n : ℕ) (h : FVec Ideal S512x6912 .f32) (a c' : FVec Ideal S512x128 .f32) : Prop where
  vals : ∀ (r : Fin 512) (c : Fin 6912), c.val < 768 * n → h (ix2 r c) = Hs X W S (row b r) c
  amax : ∀ (r : Fin 512) (l : Fin 128) (z : EReal), a (ix2 r l) ≤ z ↔
    0 ≤ z ∧ ∀ c : Fin 6912, c.val < 768 * n → c.val % 128 = l.val → eabs (Hs X W S (row b r) c) ≤ z
  carry : n ≠ 0 → ∀ (r : Fin 512) (l : Fin 128) (k : Fin 13696), l.val < 64 → k.val + 64 = 768 * n + l.val → c' (ix2 r l) = silu (yv X W S (row b r) k)

/-- Before the first column tile, the lane maxima zero. -/
theorem inv_zero (b : Fin 24) (h : FVec Ideal S512x6912 .f32) (a c' : FVec Ideal S512x128 .f32) (ha : ∀ y, a y = 0) : Inv X W S b 0 h a c' where
  vals r c hc := absurd hc (by omega)
  amax r l z := by
    rw [ha]
    exact ⟨fun h => ⟨h, fun c hc => absurd hc (by omega)⟩, fun h => h.1⟩
  carry h := absurd rfl h

section Step

variable {X W S}
variable (b : Fin 24) (i : grid0.Coords) (x6 : FVec Ideal S512x4096 .fp8e4m3) (x7 : FVec Ideal S512x1 .f32) (x1 x2 : FVec Ideal S4096x768 .fp8e4m3) (x3 : FVec Ideal S1x13696 .f32) (xc xa : FVec Ideal S512x128 .f32)
  (h6 : ∀ r k, x6 (ix2 r k) = cX X (row b r) k) (h7 : ∀ r, x7 (ix2 r 0) = sX X (row b r))
  (h1 : ∀ (k : Fin 4096) (q : Fin 768) (c : Fin 13696), c.val = 768 * (i 1).val + q.val → x1 (ix2 k q) = W k c)
  (h2 : ∀ (k : Fin 4096) (q : Fin 768) (c : Fin 13696), c.val = 768 * (i 1).val + 6784 + q.val → x2 (ix2 k q) = W k c)
  (h3 : ∀ c : Fin 13696, x3 (ix2 0 c) = S c)
include h6 h7 h3

theorem col_yv (xw : FVec Ideal S4096x768 .fp8e4m3) (off : ℕ)
    (hw : ∀ (k : Fin 4096) (q : Fin 768) (c : Fin 13696), c.val = off + q.val → xw (ix2 k q) = W k c)
    (r : Fin 512) (q : Fin 768) (c : Fin 13696) (hc : c.val = off + q.val) :
    col x6 x7 xw x3 off r q = yv X W S (row b r) c := by
  unfold col yv
  have e : (∑ k : Fin 4096, x6 (ix2 r k) * xw (ix2 k q)) = ∑ k : Fin 4096, cX X (row b r) k * W k c :=
    Finset.sum_congr rfl fun k _ => by rw [h6, hw k q c hc]
  have e3 : wsN x3 (off + q.val) = S c := by
    have hlt : off + q.val < 13696 := hc ▸ c.isLt
    unfold wsN; rw [dif_pos hlt, h3]
    exact congrArg S (Fin.ext hc.symm)
  rw [e, h7, e3]

include h1 h2

theorem hval_Hs (h : FVec Ideal S512x6912 .f32) (hI : Inv X W S b (i 1).val h xa xc) (r : Fin 512) (q : Fin 768) (c : Fin 6912) (hc : c.val = 768 * (i 1).val + q.val) :
    hval i x6 x7 x1 x2 x3 xc r q = Hs X W S (row b r) c := by
  have hq := q.isLt
  have h9 := i1_lt i
  have hcl := c.isLt
  unfold hval Hs
  by_cases hq64 : q.val < 64
  · rw [if_pos hq64]
    by_cases h0 : (i 1).val = 0
    · rw [if_pos h0, dif_pos (by omega)]
    · rw [if_neg h0, dif_neg (by omega)]
      unfold hid
      rw [hI.carry h0 r ⟨q.val % 128, Nat.mod_lt _ (by decide)⟩ ⟨c.val - 64, by omega⟩ (by show q.val % 128 < 64; omega) (by show c.val - 64 + 64 = 768 * (i 1).val + q.val % 128; omega),
        col_yv b x6 x7 x3 h6 h7 h3 x2 (768 * (i 1).val + 6784) h2 r q ⟨6848 + (c.val - 64), by omega⟩ (by show 6848 + (c.val - 64) = _; omega)]
  · rw [if_neg hq64, dif_neg (by omega)]
    unfold hid
    rw [col_yv b x6 x7 x3 h6 h7 h3 x1 (768 * (i 1).val) h1 r ⟨q.val - 64, by omega⟩ ⟨c.val - 64, by omega⟩ (by show c.val - 64 = 768 * (i 1).val + (q.val - 64); omega),
      col_yv b x6 x7 x3 h6 h7 h3 x2 (768 * (i 1).val + 6784) h2 r q ⟨6848 + (c.val - 64), by omega⟩ (by show 6848 + (c.val - 64) = _; omega)]

/-- One column tile. -/
theorem inv_step (xh : FVec Ideal S512x6912 .f32) (hI : Inv X W S b (i 1).val xh xa xc) :
    Inv X W S b ((i 1).val + 1) (over (F := Ideal) (e := .f32) xh (stepH (F := Ideal) i x6 x7 x1 x2 x3 xc xa))
      (stepM (F := Ideal) i x6 x7 x1 x2 x3 xc xa) (stepC (F := Ideal) i x6 x7 x1 x2 x3 xc xa) where
  vals r c hc := by
    by_cases hlt : c.val < 768 * (i 1).val
    · rw [over_out i x6 x7 x1 x2 x3 xc xa xh r c (.inl hlt)]
      exact hI.vals r c hlt
    · rw [over_in i x6 x7 x1 x2 x3 xc xa xh r c ⟨c.val - 768 * (i 1).val, by omega⟩ (by show c.val = 768 * (i 1).val + (c.val - 768 * (i 1).val); omega)]
      exact hval_Hs b i x6 x7 x1 x2 x3 xc xa h6 h7 h1 h2 h3 xh hI r _ c (by show c.val = 768 * (i 1).val + (c.val - 768 * (i 1).val); omega)
  amax r l z := by
    have h9 := i1_lt i
    have hl := l.isLt
    rw [stepM_le, hI.amax r l z]
    constructor
    · rintro ⟨⟨hz, hA⟩, hB⟩
      refine ⟨hz, fun c hc hcl => ?_⟩
      by_cases hlt : c.val < 768 * (i 1).val
      · exact hA c hlt hcl
      · have hn : (c.val - 768 * (i 1).val) / 128 < 6 := by omega
        have := hB ⟨(c.val - 768 * (i 1).val) / 128, hn⟩
        rwa [hval_Hs b i x6 x7 x1 x2 x3 xc xa h6 h7 h1 h2 h3 xh hI r _ c (by show c.val = 768 * (i 1).val + (128 * ((c.val - 768 * (i 1).val) / 128) + l.val); omega)] at this
    · rintro ⟨hz, hA⟩
      refine ⟨⟨hz, fun c hc hcl => hA c (by omega) hcl⟩, fun n => ?_⟩
      have hn := n.isLt
      rw [hval_Hs b i x6 x7 x1 x2 x3 xc xa h6 h7 h1 h2 h3 xh hI r _ ⟨768 * (i 1).val + (128 * n.val + l.val), by omega⟩ rfl]
      exact hA _ (by show 768 * (i 1).val + (128 * n.val + l.val) < _; omega) (by show (768 * (i 1).val + (128 * n.val + l.val)) % 128 = _; omega)
  carry _ r l k hl hk := by
    rw [stepC_apply i x6 x7 x1 x2 x3 xc xa r l hl]
    exact congrArg silu (col_yv b x6 x7 x3 h6 h7 h3 x1 (768 * (i 1).val) h1 r _ k (by show k.val = 768 * (i 1).val + (704 + l.val); omega))

end Step

section Last

variable {X W S}
variable (b : Fin 24) (h : FVec Ideal S512x6912 .f32) (a c' : FVec Ideal S512x128 .f32) (hI : Inv X W S b 9 h a c')
include hI

theorem lmax_eq (r : Fin 512) : lmax a r = Finset.univ.fold max (⊥ : EReal) fun c : Fin 6848 => eabs (hid X W S (row b r) c) := by
  refine eq_of_forall_ge_iff fun z => ?_
  unfold lmax
  rw [Finset.fold_max_le, Finset.fold_max_le]
  constructor
  · rintro ⟨_, hA⟩
    refine ⟨bot_le, fun c _ => ?_⟩
    have hc := c.isLt
    have := ((hI.amax r ⟨(c.val + 64) % 128, Nat.mod_lt _ (by decide)⟩ z).mp (hA _ (Finset.mem_univ _))).2 ⟨c.val + 64, by omega⟩ (by show c.val + 64 < 768 * 9; omega) rfl
    unfold Hs at this
    rw [dif_neg (by show ¬ c.val + 64 < 64; omega)] at this
    exact this
  · rintro ⟨_, hA⟩
    refine ⟨bot_le, fun l _ => (hI.amax r l z).mpr ⟨(eabs_nonneg _).trans (hA 0 (Finset.mem_univ _)), fun c _ _ => ?_⟩⟩
    unfold Hs
    by_cases hc : c.val < 64
    · rw [dif_pos hc, eabs_zero]; exact (eabs_nonneg _).trans (hA 0 (Finset.mem_univ _))
    · rw [dif_neg hc]; exact hA _ (Finset.mem_univ _)

/-- The scales the epilogue stores. -/
theorem last_scale (r : Fin 512) : k0_pay5 (F := Ideal) a (ix2 r 0) = sH X W S (row b r) := by
  rw [pay6_apply, lmax_eq b h a c' hI]; rfl

/-- The codes the epilogue stores. -/
theorem last_code (r : Fin 512) (c : Fin 6848) : View.canon (Val := Elt Ideal) (epC (F := Ideal) a h) (ix2 r c) = cH X W S (row b r) c := by
  have hc := c.isLt
  rw [epC_apply, lmax_eq b h a c' hI, hI.vals r ⟨c.val + 64, by omega⟩ (by show c.val + 64 < 768 * 9; omega)]
  unfold Hs
  rw [dif_neg (by show ¬ c.val + 64 < 64; omega)]
  rfl

end Last

end Cert.KernelIdeal.Val
-- ==== Proof.KernelIdealBlocks.lean ====
/- The blocks the pipeline fetches, entry by entry. -/
module

public import proofs.«01_k».proof.Proof.KernelIdealInv
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen Cert.KernelIdeal.Body Cert.Quant Cert.Spec
open Idealize.ShloMosaic Idealize.ShloMosaic.TcCoe Idealize.ShloMosaic.Tactic

variable (m : (ℓ : Loc nD τ sig) → Buf (Elt Ideal) ℓ)

/-- The activations, one row per token. -/
def aX (c : Dev nD) (R : Fin 12288) (k : Fin 4096) : EReal := V m c main_v0 (ix2 R k)
/-- The weights. -/
def aW (c : Dev nD) (k : Fin 4096) (j : Fin 13696) : EReal := V m c main_arg1 (ix2 k j)
/-- The weights' scales. -/
def aS (c : Dev nD) (j : Fin 13696) : EReal := V m c main_v1 (ix2 0 j)

/-- The windows' block indices. -/
theorem idx : ∀ t : Fin cfg0.N, win0_0.index t = ![t.val / 9, 0] ∧ win0_1.index t = ![0, t.val % 9] ∧ win0_2.index t = ![0, 6784 + 768 * (t.val % 9)]
    ∧ win0_3.index t = ![0, 0] ∧ win0_4.index t = ![t.val / 9, 0] ∧ win0_5.index t = ![t.val / 9, 0] ∧ win0_6.index t = ![t.val / 9, 0] ∧ win0_7.index t = ![t.val / 9, 0] :=
  (by decide +kernel : ∀ t : Fin grid0.N, _)

/-- The column tile's number. -/
theorem coord1 : ∀ t : Fin cfg0.N, ((grid0.coords t) 1).val = t.val % 9 := (by decide +kernel : ∀ t : Fin grid0.N, _)

/-- The row block's number. -/
def blkOf (t : Fin cfg0.N) : Fin 24 := ⟨t.val / 9, by have h : t.val < grid0.N := t.isLt; rw [N_0] at h; omega⟩

theorem iblk0_apply (c : Dev nD) (t : Fin cfg0.N) (r : Fin 512) (k : Fin 4096) (R : Fin 12288) (hR : R.val = 512 * (t.val / 9) + r.val) :
    iblk m c 0 t (ix2 r k) = aX m c R k := by
  unfold aX
  blk_simp [iblk]
  blk_ext [idx t]

theorem iblk2_apply (c : Dev nD) (t : Fin cfg0.N) (k : Fin 4096) (q : Fin 768) (j : Fin 13696) (hj : j.val = 768 * (t.val % 9) + 6784 + q.val) :
    iblk m c 2 t (ix2 k q) = aW m c k j := by
  unfold aW
  blk_simp [iblk]
  blk_ext [idx t]
  · show win0_2.index t 0 + 1 * k.val = k.val
    rw [(idx t).2.2.1]
    show 0 + 1 * k.val = k.val
    omega
  · show win0_2.index t 1 + 1 * q.val = j.val
    rw [(idx t).2.2.1]
    show 6784 + 768 * (t.val % 9) + 1 * q.val = j.val
    omega

theorem iblk3_apply (c : Dev nD) (t : Fin cfg0.N) (j : Fin 13696) : iblk m c 3 t (ix2 0 j) = aS m c j := by
  unfold aS
  blk_simp [iblk]
  blk_ext [idx t]

theorem X1_apply (c : Dev nD) (t : Fin cfg0.N) (k : Fin 4096) (q : Fin 768) (j : Fin 13696) (hj : j.val = 768 * (t.val % 9) + q.val) :
    X0_1 m c t (ix2 k q) = aW m c k j := by
  unfold aW X0_1 Pipeline.Window.fill
  rw [dif_pos (moved0_1 t _)]
  blk_simp [iblk]
  blk_ext [idx t]

end Cert.KernelIdeal.Val
-- ==== Proof.KernelIdealRunA.lean ====
/- The body's run at the first column tile of a row block, with what it stores. -/
module

public import proofs.«01_k».proof.Proof.KernelIdealRuns

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first column tile of a row block: the pieces its stores leave in each buffer it writes, with the proof that from the
    inputs' buffers at their contents, and the others at theirs (those it overwrites whole at any), it runs to the end with
    those pieces written and every other buffer as it was. -/
def vrun_A (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    Σ' (L6 : List (View.Piece (Elt F) S512x4096 .fp8e4m3)), Σ' (L7 : List (View.Piece (Elt F) S512x1 .f32)), Σ' (L8 : List (View.Piece (Elt F) S512x6912 .f32)), Σ' (L9 : List (View.Piece (Elt F) S512x128 .f32)), { L10 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ (∃ d, owns (c : Thread nD τ) arg8 fullShare d) ∗ (∃ d, owns (c : Thread nD τ) arg9 fullShare d) ∗ owns (c : Thread nD τ) arg10 fullShare xh ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ (∃ f, arg8.view.loc c ↦[arg8.view.set]{fullShare} arg8.view.writes (Elt F) f L6) ∗ (∃ f, arg9.view.loc c ↦[arg9.view.set]{fullShare} arg9.view.writes (Elt F) f L7) ∗ (arg10.view.loc c ↦[arg10.view.set]{fullShare} arg10.view.writes (Elt F) (harg10.unread xh) L8) ∗ (∃ f, arg11.view.loc c ↦[arg11.view.set]{fullShare} arg11.view.writes (Elt F) f L9) ∗ (∃ f, arg12.view.loc c ↦[arg12.view.set]{fullShare} arg12.view.writes (Elt F) f L10)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_swiglu_gate_up_fp8_eq_skeleton]; unfold cc0_swiglu_gate_up_fp8_skel
    simp only [k0_part25_eq_skeleton, k0_part20_eq_skeleton, k0_part1_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [H8]
    · iexact H8
    isplitl [H9]
    · iexists _; iexact H9
    iexists _; iexact H10

end Cert.KernelIdeal.Body

end
-- ==== Proof.KernelIdealTripleA.lean ====
/- The body's triple at the first column tile of a row block, with what it leaves in every buffer. -/
module

public import proofs.«01_k».proof.Proof.KernelIdealStep
public import proofs.«01_k».proof.Proof.KernelIdealRunA

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of `arg8` at the first column tile of a row block. -/
theorem pcs_A_arg8 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).1 = [⟨Rect.unit (s := S512x4096) ![0, 0] S512x4096.size inb_S512x4096_S512x4096_0_0, qx x0⟩] := by
  have e : (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).1 = [⟨Rect.unit (s := S512x4096) ![0, 0] S512x4096.size inb_S512x4096_S512x4096_0_0, qx (View.readAt (Elt F) arg2.view (Rect.unit (s := S512x4096) ![0, 0] S512x4096.size inb_S512x4096_S512x4096_0_0).toLoadRect (harg2.unread x0))⟩] := by
    unfold vrun_A; rfl
  rw [e, rdw_S512x4096 harg2]

/-- The pieces of `arg9` at the first column tile of a row block. -/
theorem pcs_A_arg9 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.1 = [⟨Rect.unit (s := S512x1) ![0, 0] S512x1.size inb_S512x1_S512x1_0_0, qs x0⟩] := by
  have e : (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.1 = [⟨Rect.unit (s := S512x1) ![0, 0] S512x1.size inb_S512x1_S512x1_0_0, qs (View.readAt (Elt F) arg2.view (Rect.unit (s := S512x4096) ![0, 0] S512x4096.size inb_S512x4096_S512x4096_0_0).toLoadRect (harg2.unread x0))⟩] := by
    unfold vrun_A; rfl
  rw [e, rdw_S512x4096 harg2]

/-- The pieces of `arg10` at the first column tile of a row block. -/
theorem pcs_A_arg10 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.1 = stepH i (qx x0) (qs x0) x1 x2 x3 k0_pay130 k0_pay129 := by
  have e : (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.1 = stepH i (arg8.view.readCov [(⟨Rect.unit (s := S512x4096) ![0, 0] S512x4096.size inb_S512x4096_S512x4096_0_0, (qx (View.readAt (Elt F) arg2.view (Rect.unit (s := S512x4096) ![0, 0] S512x4096.size inb_S512x4096_S512x4096_0_0).toLoadRect (harg2.unread x0)))⟩ : View.Piece (Elt F) S512x4096 .fp8e4m3)] (Rect.unit (s := S512x4096) ![0, 0] S512x4096.size inb_S512x4096_S512x4096_0_0).toLoadRect) (arg9.view.readCov [(⟨Rect.unit (s := S512x1) ![0, 0] S512x1.size inb_S512x1_S512x1_0_0, (qs (View.readAt (Elt F) arg2.view (Rect.unit (s := S512x4096) ![0, 0] S512x4096.size inb_S512x4096_S512x4096_0_0).toLoadRect (harg2.unread x0)))⟩ : View.Piece (Elt F) S512x1 .f32)] (Rect.unit (s := S512x1) ![0, 0] S512x1.size inb_S512x1_S512x1_0_0).toLoadRect) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (arg12.view.readCov [(⟨Rect.unit (s := S512x128) ![0, 0] S512x128.size inb_S512x128_S512x128_0_0, k0_pay130⟩ : View.Piece (Elt F) S512x128 .f32)] (Rect.unit (s := S512x128) ![0, 0] S512x128.size inb_S512x128_S512x128_0_0).toLoadRect) (arg11.view.readCov [(⟨Rect.unit (s := S512x128) ![0, 0] S512x128.size inb_S512x128_S512x128_0_0, k0_pay129⟩ : View.Piece (Elt F) S512x128 .f32)] (Rect.unit (s := S512x128) ![0, 0] S512x128.size inb_S512x128_S512x128_0_0).toLoadRect) := by
    unfold vrun_A; rfl
  rw [e, rcw_S512x4096, rcw_S512x1, rcw_S512x128, rcw_S512x128, rdw_S512x4096 harg2, rdw_S4096x768 harg3, rdw_S4096x768 harg4, harg5.read_unread]

/-- The pieces of `arg11` at the first column tile of a row block. -/
theorem pcs_A_arg11 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.2.1 = [⟨Rect.unit (s := S512x128) ![0, 0] S512x128.size inb_S512x128_S512x128_0_0, stepM i (qx x0) (qs x0) x1 x2 x3 k0_pay130 k0_pay129⟩, ⟨Rect.unit (s := S512x128) ![0, 0] S512x128.size inb_S512x128_S512x128_0_0, k0_pay129⟩] := by
  have e : (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.2.1 = [⟨Rect.unit (s := S512x128) ![0, 0] S512x128.size inb_S512x128_S512x128_0_0, stepM i (arg8.view.readCov [(⟨Rect.unit (s := S512x4096) ![0, 0] S512x4096.size inb_S512x4096_S512x4096_0_0, (qx (View.readAt (Elt F) arg2.view (Rect.unit (s := S512x4096) ![0, 0] S512x4096.size inb_S512x4096_S512x4096_0_0).toLoadRect (harg2.unread x0)))⟩ : View.Piece (Elt F) S512x4096 .fp8e4m3)] (Rect.unit (s := S512x4096) ![0, 0] S512x4096.size inb_S512x4096_S512x4096_0_0).toLoadRect) (arg9.view.readCov [(⟨Rect.unit (s := S512x1) ![0, 0] S512x1.size inb_S512x1_S512x1_0_0, (qs (View.readAt (Elt F) arg2.view (Rect.unit (s := S512x4096) ![0, 0] S512x4096.size inb_S512x4096_S512x4096_0_0).toLoadRect (harg2.unread x0)))⟩ : View.Piece (Elt F) S512x1 .f32)] (Rect.unit (s := S512x1) ![0, 0] S512x1.size inb_S512x1_S512x1_0_0).toLoadRect) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (arg12.view.readCov [(⟨Rect.unit (s := S512x128) ![0, 0] S512x128.size inb_S512x128_S512x128_0_0, k0_pay130⟩ : View.Piece (Elt F) S512x128 .f32)] (Rect.unit (s := S512x128) ![0, 0] S512x128.size inb_S512x128_S512x128_0_0).toLoadRect) (arg11.view.readCov [(⟨Rect.unit (s := S512x128) ![0, 0] S512x128.size inb_S512x128_S512x128_0_0, k0_pay129⟩ : View.Piece (Elt F) S512x128 .f32)] (Rect.unit (s := S512x128) ![0, 0] S512x128.size inb_S512x128_S512x128_0_0).toLoadRect)⟩, ⟨Rect.unit (s := S512x128) ![0, 0] S512x128.size inb_S512x128_S512x128_0_0, k0_pay129⟩] := by
    unfold vrun_A; rfl
  rw [e, rcw_S512x4096, rcw_S512x1, rcw_S512x128, rcw_S512x128, rdw_S512x4096 harg2, rdw_S4096x768 harg3, rdw_S4096x768 harg4, harg5.read_unread]

/-- The pieces of `arg12` at the first column tile of a row block. -/
theorem pcs_A_arg12 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) :
    (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.2.2.1 = [⟨Rect.unit (s := S512x128) ![0, 0] S512x128.size inb_S512x128_S512x128_0_0, stepC i (qx x0) (qs x0) x1 x2 x3 k0_pay130 k0_pay129⟩, ⟨Rect.unit (s := S512x128) ![0, 0] S512x128.size inb_S512x128_S512x128_0_0, k0_pay130⟩] := by
  have e : (vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.2.2.1 = [⟨Rect.unit (s := S512x128) ![0, 0] S512x128.size inb_S512x128_S512x128_0_0, stepC i (arg8.view.readCov [(⟨Rect.unit (s := S512x4096) ![0, 0] S512x4096.size inb_S512x4096_S512x4096_0_0, (qx (View.readAt (Elt F) arg2.view (Rect.unit (s := S512x4096) ![0, 0] S512x4096.size inb_S512x4096_S512x4096_0_0).toLoadRect (harg2.unread x0)))⟩ : View.Piece (Elt F) S512x4096 .fp8e4m3)] (Rect.unit (s := S512x4096) ![0, 0] S512x4096.size inb_S512x4096_S512x4096_0_0).toLoadRect) (arg9.view.readCov [(⟨Rect.unit (s := S512x1) ![0, 0] S512x1.size inb_S512x1_S512x1_0_0, (qs (View.readAt (Elt F) arg2.view (Rect.unit (s := S512x4096) ![0, 0] S512x4096.size inb_S512x4096_S512x4096_0_0).toLoadRect (harg2.unread x0)))⟩ : View.Piece (Elt F) S512x1 .f32)] (Rect.unit (s := S512x1) ![0, 0] S512x1.size inb_S512x1_S512x1_0_0).toLoadRect) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (arg12.view.readCov [(⟨Rect.unit (s := S512x128) ![0, 0] S512x128.size inb_S512x128_S512x128_0_0, k0_pay130⟩ : View.Piece (Elt F) S512x128 .f32)] (Rect.unit (s := S512x128) ![0, 0] S512x128.size inb_S512x128_S512x128_0_0).toLoadRect) (arg11.view.readCov [(⟨Rect.unit (s := S512x128) ![0, 0] S512x128.size inb_S512x128_S512x128_0_0, k0_pay129⟩ : View.Piece (Elt F) S512x128 .f32)] (Rect.unit (s := S512x128) ![0, 0] S512x128.size inb_S512x128_S512x128_0_0).toLoadRect)⟩, ⟨Rect.unit (s := S512x128) ![0, 0] S512x128.size inb_S512x128_S512x128_0_0, k0_pay130⟩] := by
    unfold vrun_A; rfl
  rw [e, rcw_S512x4096, rcw_S512x1, rcw_S512x128, rcw_S512x128, rdw_S512x4096 harg2, rdw_S4096x768 harg3, rdw_S4096x768 harg4, harg5.read_unread]

set_option maxHeartbeats 3200000 in
/-- The body's triple at the first column tile of a row block, with what it leaves in every buffer. -/
theorem body_A (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (xh : Vec F S512x6912 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ (∃ d, owns (c : Thread nD τ) arg8 fullShare d) ∗ (∃ d, owns (c : Thread nD τ) arg9 fullShare d) ∗ owns (c : Thread nD τ) arg10 fullShare xh ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare (qx x0) ∗ owns (c : Thread nD τ) arg9 fullShare (qs x0) ∗ owns (c : Thread nD τ) arg10 fullShare (over xh (stepH i (qx x0) (qs x0) x1 x2 x3 k0_pay130 k0_pay129)) ∗ owns (c : Thread nD τ) arg11 fullShare (stepM i (qx x0) (qs x0) x1 x2 x3 k0_pay130 k0_pay129) ∗ owns (c : Thread nD τ) arg12 fullShare (stepC i (qx x0) (qs x0) x1 x2 x3 k0_pay130 k0_pay129)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply ((vrun_A c i arg2 harg2 arg3 harg3 arg4 harg4 arg5 harg5 arg6 harg6 arg7 harg7 arg8 harg8 arg9 harg9 arg10 harg10 arg11 harg11 arg12 harg12 hc0 hc1 x0 x1 x2 x3 d4 d5 xh).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, ⟨%f6, H6⟩, ⟨%f7, H7⟩, H8, ⟨%f9, H9⟩, ⟨%f10, H10⟩⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · unfold owns; iexists _; isplitr; swap; · iexact H6
    ipureintro
    rw [pcs_A_arg8 c i arg2 harg2 arg3 harg3 arg4 harg4 arg5 harg5 arg6 harg6 arg7 harg7 arg8 harg8 arg9 harg9 arg10 harg10 arg11 harg11 arg12 harg12 hc0 hc1 x0 x1 x2 x3 d4 d5 xh, rd1_S512x4096]
  isplitl [H7]
  · unfold owns; iexists _; isplitr; swap; · iexact H7
    ipureintro
    rw [pcs_A_arg9 c i arg2 harg2 arg3 harg3 arg4 harg4 arg5 harg5 arg6 harg6 arg7 harg7 arg8 harg8 arg9 harg9 arg10 harg10 arg11 harg11 arg12 harg12 hc0 hc1 x0 x1 x2 x3 d4 d5 xh, rd1_S512x1]
  isplitl [H8]
  · unfold owns; iexists _; isplitr; swap; · iexact H8
    ipureintro
    rw [pcs_A_arg10 c i arg2 harg2 arg3 harg3 arg4 harg4 arg5 harg5 arg6 harg6 arg7 harg7 arg8 harg8 arg9 harg9 arg10 harg10 arg11 harg11 arg12 harg12 hc0 hc1 x0 x1 x2 x3 d4 d5 xh, read_writes_over harg10]
  isplitl [H9]
  · unfold owns; iexists _; isplitr; swap; · iexact H9
    ipureintro
    rw [pcs_A_arg11 c i arg2 harg2 arg3 harg3 arg4 harg4 arg5 harg5 arg6 harg6 arg7 harg7 arg8 harg8 arg9 harg9 arg10 harg10 arg11 harg11 arg12 harg12 hc0 hc1 x0 x1 x2 x3 d4 d5 xh, rd1_S512x128]
  unfold owns; iexists _; isplitr; swap; · iexact H10
  ipureintro
  rw [pcs_A_arg12 c i arg2 harg2 arg3 harg3 arg4 harg4 arg5 harg5 arg6 harg6 arg7 harg7 arg8 harg8 arg9 harg9 arg10 harg10 arg11 harg11 arg12 harg12 hc0 hc1 x0 x1 x2 x3 d4 d5 xh, rd1_S512x128]

end Cert.KernelIdeal.Body

end
-- ==== Proof.KernelIdealRunB.lean ====
/- The body's run at a column tile that is neither the first nor the last, with what it stores. -/
module

public import proofs.«01_k».proof.Proof.KernelIdealRuns

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a column tile that is neither the first nor the last: the pieces its stores leave in each buffer it writes, with the proof that from the
    inputs' buffers at their contents, and the others at theirs (those it overwrites whole at any), it runs to the end with
    those pieces written and every other buffer as it was. -/
def vrun_B (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (x6 : Vec F S512x4096 .fp8e4m3) (x7 : Vec F S512x1 .f32) (xh : Vec F S512x6912 .f32) (xa : Vec F S512x128 .f32) (xc : Vec F S512x128 .f32) :
    Σ' (L8 : List (View.Piece (Elt F) S512x6912 .f32)), Σ' (L9 : List (View.Piece (Elt F) S512x128 .f32)), { L10 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare x6 ∗ owns (c : Thread nD τ) arg9 fullShare x7 ∗ owns (c : Thread nD τ) arg10 fullShare xh ∗ owns (c : Thread nD τ) arg11 fullShare xa ∗ owns (c : Thread nD τ) arg12 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare x6 ∗ owns (c : Thread nD τ) arg9 fullShare x7 ∗ (arg10.view.loc c ↦[arg10.view.set]{fullShare} arg10.view.writes (Elt F) (harg10.unread xh) L8) ∗ (arg11.view.loc c ↦[arg11.view.set]{fullShare} arg11.view.writes (Elt F) (harg11.unread xa) L9) ∗ (arg12.view.loc c ↦[arg12.view.set]{fullShare} arg12.view.writes (Elt F) (harg12.unread xc) L10)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_swiglu_gate_up_fp8_eq_skeleton]; unfold cc0_swiglu_gate_up_fp8_skel
    simp only [k0_part25_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexact H8
    isplitl [H9]
    · iexact H9
    iexact H10

end Cert.KernelIdeal.Body

end
-- ==== Proof.KernelIdealTripleB.lean ====
/- The body's triple at a column tile that is neither the first nor the last, with what it leaves in every buffer. -/
module

public import proofs.«01_k».proof.Proof.KernelIdealStep
public import proofs.«01_k».proof.Proof.KernelIdealRunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of `arg10` at a column tile that is neither the first nor the last. -/
theorem pcs_B_arg10 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (x6 : Vec F S512x4096 .fp8e4m3) (x7 : Vec F S512x1 .f32) (xh : Vec F S512x6912 .f32) (xa : Vec F S512x128 .f32) (xc : Vec F S512x128 .f32) :
    (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).1 = stepH i x6 x7 x1 x2 x3 xc xa := by
  have e : (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).1 = stepH i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa)) := by
    unfold vrun_B; rfl
  rw [e, rdw_S512x4096 harg8, rdw_S512x1 harg9, rdw_S512x128 harg12, rdw_S512x128 harg11, rdw_S4096x768 harg3, rdw_S4096x768 harg4, harg5.read_unread]

/-- The pieces of `arg11` at a column tile that is neither the first nor the last. -/
theorem pcs_B_arg11 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (x6 : Vec F S512x4096 .fp8e4m3) (x7 : Vec F S512x1 .f32) (xh : Vec F S512x6912 .f32) (xa : Vec F S512x128 .f32) (xc : Vec F S512x128 .f32) :
    (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).2.1 = [⟨Rect.unit (s := S512x128) ![0, 0] S512x128.size inb_S512x128_S512x128_0_0, stepM i x6 x7 x1 x2 x3 xc xa⟩] := by
  have e : (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).2.1 = [⟨Rect.unit (s := S512x128) ![0, 0] S512x128.size inb_S512x128_S512x128_0_0, stepM i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa))⟩] := by
    unfold vrun_B; rfl
  rw [e, rdw_S512x4096 harg8, rdw_S512x1 harg9, rdw_S512x128 harg12, rdw_S512x128 harg11, rdw_S4096x768 harg3, rdw_S4096x768 harg4, harg5.read_unread]

/-- The pieces of `arg12` at a column tile that is neither the first nor the last. -/
theorem pcs_B_arg12 (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (x6 : Vec F S512x4096 .fp8e4m3) (x7 : Vec F S512x1 .f32) (xh : Vec F S512x6912 .f32) (xa : Vec F S512x128 .f32) (xc : Vec F S512x128 .f32) :
    (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).2.2.1 = [⟨Rect.unit (s := S512x128) ![0, 0] S512x128.size inb_S512x128_S512x128_0_0, stepC i x6 x7 x1 x2 x3 xc xa⟩] := by
  have e : (vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).2.2.1 = [⟨Rect.unit (s := S512x128) ![0, 0] S512x128.size inb_S512x128_S512x128_0_0, stepC i (View.readAt (Elt F) arg8.view (Rect.unit (s := S512x4096) ![0, 0] S512x4096.size inb_S512x4096_S512x4096_0_0).toLoadRect (harg8.unread x6)) (View.readAt (Elt F) arg9.view (Rect.unit (s := S512x1) ![0, 0] S512x1.size inb_S512x1_S512x1_0_0).toLoadRect (harg9.unread x7)) (View.readAt (Elt F) arg3.view (Rect.unit (s := S4096x768) ![0, 0] S4096x768.size inb_S4096x768_S4096x768_0_0).toLoadRect (harg3.unread x1)) (View.readAt (Elt F) arg4.view (Rect.unit (s := S4096x768) ![0, 0] S4096x768.size inb_S4096x768_S4096x768_0_0).toLoadRect (harg4.unread x2)) (arg5.view.read (Elt F) (harg5.unread x3)) (View.readAt (Elt F) arg12.view (Rect.unit (s := S512x128) ![0, 0] S512x128.size inb_S512x128_S512x128_0_0).toLoadRect (harg12.unread xc)) (View.readAt (Elt F) arg11.view (Rect.unit (s := S512x128) ![0, 0] S512x128.size inb_S512x128_S512x128_0_0).toLoadRect (harg11.unread xa))⟩] := by
    unfold vrun_B; rfl
  rw [e, rdw_S512x4096 harg8, rdw_S512x1 harg9, rdw_S512x128 harg12, rdw_S512x128 harg11, rdw_S4096x768 harg3, rdw_S4096x768 harg4, harg5.read_unread]

set_option maxHeartbeats 3200000 in
/-- The body's triple at a column tile that is neither the first nor the last, with what it leaves in every buffer. -/
theorem body_B (c : Dev nD) (i : grid0.Coords) (arg2 : Memref sig .tc .vmem S512x4096 .bf16) (harg2 : arg2.IsWhole) (arg3 : Memref sig .tc .vmem S4096x768 .fp8e4m3) (harg3 : arg3.IsWhole) (arg4 : Memref sig .tc .vmem S4096x768 .fp8e4m3) (harg4 : arg4.IsWhole) (arg5 : Memref sig .tc .vmem S1x13696 .f32) (harg5 : arg5.IsWhole) (arg6 : Memref sig .tc .vmem S512x1 .f32) (harg6 : arg6.IsWhole) (arg7 : Memref sig .tc .vmem S512x6848 .fp8e4m3) (harg7 : arg7.IsWhole) (arg8 : Memref sig .tc .vmem S512x4096 .fp8e4m3) (harg8 : arg8.IsWhole) (arg9 : Memref sig .tc .vmem S512x1 .f32) (harg9 : arg9.IsWhole) (arg10 : Memref sig .tc .vmem S512x6912 .f32) (harg10 : arg10.IsWhole) (arg11 : Memref sig .tc .vmem S512x128 .f32) (harg11 : arg11.IsWhole) (arg12 : Memref sig .tc .vmem S512x128 .f32) (harg12 : arg12.IsWhole) (hc0 : ¬cond0_0 i) (hc1 : ¬cond0_1 i)
    (x0 : Vec F S512x4096 .bf16) (x1 : Vec F S4096x768 .fp8e4m3) (x2 : Vec F S4096x768 .fp8e4m3) (x3 : Vec F S1x13696 .f32) (d4 : Vec F S512x1 .f32) (d5 : Vec F S512x6848 .fp8e4m3) (x6 : Vec F S512x4096 .fp8e4m3) (x7 : Vec F S512x1 .f32) (xh : Vec F S512x6912 .f32) (xa : Vec F S512x128 .f32) (xc : Vec F S512x128 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare x6 ∗ owns (c : Thread nD τ) arg9 fullShare x7 ∗ owns (c : Thread nD τ) arg10 fullShare xh ∗ owns (c : Thread nD τ) arg11 fullShare xa ∗ owns (c : Thread nD τ) arg12 fullShare xc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare d5 ∗ owns (c : Thread nD τ) arg8 fullShare x6 ∗ owns (c : Thread nD τ) arg9 fullShare x7 ∗ owns (c : Thread nD τ) arg10 fullShare (over xh (stepH i x6 x7 x1 x2 x3 xc xa)) ∗ owns (c : Thread nD τ) arg11 fullShare (stepM i x6 x7 x1 x2 x3 xc xa) ∗ owns (c : Thread nD τ) arg12 fullShare (stepC i x6 x7 x1 x2 x3 xc xa)) -∗ K ⟨⟩))
          ⊢ wp frame (wpE (defs₀ (F := F)) Variants.none c none) E (cc0_swiglu_gate_up_fp8 i arg2 harg2 arg3 harg3 arg4 harg4 arg5 harg5 arg6 harg6 arg7 harg7 arg8 harg8 arg9 harg9 arg10 harg10 arg11 harg11 arg12 harg12) K := by
  iintro ⟨H0, H1, H2, H3, H4, H5, H6, H7, H8, H9, H10, Hk⟩
  iapply ((vrun_B c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap; · iexact H8
    ipureintro
    rw [pcs_B_arg10 c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc, read_writes_over harg10]
  isplitl [H9]
  · unfold owns; iexists _; isplitr; swap; · iexact H9
    ipureintro
    rw [pcs_B_arg11 c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc, rd1_S512x128]
  unfold owns; iexists _; isplitr; swap; · iexact H10
  ipureintro
  rw [pcs_B_arg12 c i arg2 harg2 arg3 harg3 arg4 harg4 arg5 harg5 arg6 harg6 arg7 harg7 arg8 harg8 arg9 harg9 arg10 harg10 arg11 harg11 arg12 harg12 hc0 hc1 x0 x1 x2 x3 d4 d5 x6 x7 xh xa xc, rd1_S512x128]

end Cert.KernelIdeal.Body

end
-- ==== Proof.KernelIdealExact.lean ====
/- The run of the kernel over the extended reals: what every output buffer holds when it is written back, and what the
   scratch buffers hold between column tiles. -/
module

public import proofs.«01_k».proof.Proof.KernelIdealBlocks
public import proofs.«01_k».proof.Proof.KernelIdealTripleA
public import proofs.«01_k».proof.Proof.KernelIdealTripleB
public import proofs.«01_k».proof.Proof.KernelIdealTripleC
public import proofs.«01_k».proof.Proof.KernelIdealFrame
public import Idealize.ShloMosaic.Lib.Pipeline.TableIdle

@[expose] public section

set_option maxRecDepth 16384

noncomputable section

namespace Cert.KernelIdeal.Val

open Cert.KernelIdeal Cert.KernelIdeal.Gen Cert.Quant Cert.Spec
open Cert.KernelIdeal.Body (qx qs over stepH stepM stepC epC body_A body_B body_C hcond0_0 hcond0_1 liveAt0_0 liveAt0_1 liveAt0_2 liveAt0_3 ms0_0 ms0_1 ms0_2 ms0_3 ms0_4 ms0_5 ms0_6 ms0_7 scM0_0 scM0_1 scM0_2 PhiA0_eq)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scales of the hidden values of the row block at point `t`. -/
def oHS (c : Dev nD) (t : Fin cfg0.N) : FVec Ideal S512x1 .f32 := fun y => sH (aX m c) (aW m c) (aS m c) (row (blkOf t) ⟨(y 0).val, (y 0).isLt⟩)
/-- The codes of the hidden values of the row block at point `t`. -/
def oHC (c : Dev nD) (t : Fin cfg0.N) : FVec Ideal S512x6848 .fp8e4m3 := fun y => cH (aX m c) (aW m c) (aS m c) (row (blkOf t) ⟨(y 0).val, (y 0).isLt⟩) ⟨(y 1).val, (y 1).isLt⟩
/-- The codes of the activations of the row block at point `t`. -/
def oXC (c : Dev nD) (t : Fin cfg0.N) : FVec Ideal S512x4096 .fp8e4m3 := fun y => cX (aX m c) (row (blkOf t) ⟨(y 0).val, (y 0).isLt⟩) ⟨(y 1).val, (y 1).isLt⟩
/-- The scales of the activations of the row block at point `t`. -/
def oXS (c : Dev nD) (t : Fin cfg0.N) : FVec Ideal S512x1 .f32 := fun y => sX (aX m c) (row (blkOf t) ⟨(y 0).val, (y 0).isLt⟩)

theorem rmax_eq (c : Dev nD) (t : Fin cfg0.N) (r : Fin 512) :
    rmax (iblk m c 0 t) r = Finset.univ.fold max (⊥ : EReal) fun k : Fin 4096 => eabs (aX m c (row (blkOf t) r) k) := by
  unfold rmax
  exact congrArg (fun f => Finset.univ.fold max (⊥ : EReal) f) (funext fun k => by rw [iblk0_apply m c t r k (row (blkOf t) r) rfl])

theorem qx_eq (c : Dev nD) (t : Fin cfg0.N) : qx (F := Ideal) (iblk m c 0 t) = oXC m c t := by
  funext y
  obtain ⟨r, l, rfl⟩ : ∃ (r : Fin 512) (l : Fin 4096), y = ix2 r l := ⟨y 0, y 1, eq_ix2 y⟩
  refine (qx_apply (iblk m c 0 t) r l).trans ?_
  rw [rmax_eq, iblk0_apply m c t r l (row (blkOf t) r) rfl]
  rfl

theorem qs_eq (c : Dev nD) (t : Fin cfg0.N) : qs (F := Ideal) (iblk m c 0 t) = oXS m c t := by
  funext y
  obtain ⟨r, l, rfl⟩ : ∃ (r : Fin 512) (l : Fin 1), y = ix2 r l := ⟨y 0, y 1, eq_ix2 y⟩
  obtain rfl : l = 0 := Subsingleton.elim _ _
  refine (qs_apply (iblk m c 0 t) r).trans ?_
  rw [rmax_eq]
  rfl

/-- One column tile at point `t`. -/
theorem inv_point (c : Dev nD) (t : Fin cfg0.N) (xh : FVec Ideal S512x6912 .f32) (xc xa : FVec Ideal S512x128 .f32)
    (hI : Inv (aX m c) (aW m c) (aS m c) (blkOf t) (t.val % 9) xh xa xc) :
    Inv (aX m c) (aW m c) (aS m c) (blkOf t) (t.val % 9 + 1)
      (over (F := Ideal) (e := .f32) xh (stepH (F := Ideal) (grid0.coords t) (oXC m c t) (oXS m c t) (X0_1 m c t) (iblk m c 2 t) (iblk m c 3 t) xc xa))
      (stepM (F := Ideal) (grid0.coords t) (oXC m c t) (oXS m c t) (X0_1 m c t) (iblk m c 2 t) (iblk m c 3 t) xc xa)
      (stepC (F := Ideal) (grid0.coords t) (oXC m c t) (oXS m c t) (X0_1 m c t) (iblk m c 2 t) (iblk m c 3 t) xc xa) := by
  have hc := coord1 t
  rw [← hc] at hI ⊢
  exact inv_step (blkOf t) (grid0.coords t) (oXC m c t) (oXS m c t) (X0_1 m c t) (iblk m c 2 t) (iblk m c 3 t) xc xa
    (fun r k => rfl) (fun r => rfl)
    (fun k q j hj => X1_apply m c t k q j (by rw [hj, hc]))
    (fun k q j hj => iblk2_apply m c t k q j (by rw [hj, hc]))
    (fun j => iblk3_apply m c t j) xh hI

/-- What is known of the scratch buffers before point `n`: within a row block, the invariant of its column tiles. -/
def Known (c : Dev nD) (n : ℕ) (h : FVec Ideal S512x6912 .f32) (a c' : FVec Ideal S512x128 .f32) : Prop :=
  n % 9 ≠ 0 → ∀ b : Fin 24, b.val = n / 9 → Inv (aX m c) (aW m c) (aS m c) b (n % 9) h a c'

theorem known_next (c : Dev nD) (t : Fin cfg0.N) (h8 : t.val % 9 ≠ 8) (h : FVec Ideal S512x6912 .f32) (a c' : FVec Ideal S512x128 .f32)
    (hI : Inv (aX m c) (aW m c) (aS m c) (blkOf t) (t.val % 9 + 1) h a c') : Known m c (t.val + 1) h a c' := by
  intro _ b hb
  obtain rfl : b = blkOf t := Fin.ext (by show b.val = t.val / 9; omega)
  rwa [show (t.val + 1) % 9 = t.val % 9 + 1 by omega]

theorem known_first (c : Dev nD) (n : ℕ) (h0 : n % 9 = 0) (h : FVec Ideal S512x6912 .f32) (a c' : FVec Ideal S512x128 .f32) : Known m c n h a c' :=
  fun hn => absurd h0 hn

/-- The scratch buffers before point `n`. -/
def phi (c : Dev nD) (n : ℕ) : sProp 𝕄 :=
  iprop((∃ h a c', ⌜Known m c n h a c'⌝ ∗ owns (c : Thread nD τ) scM0_0 fullShare h ∗ owns (c : Thread nD τ) scM0_1 fullShare a ∗ owns (c : Thread nD τ) scM0_2 fullShare c')
    ∗ (∃ r, prngReg c r))

/-- The proof data of the pipeline: the arrays as the region finds them, each input's buffer at its block after the
    body, each output's at what is to be written back, the scratch buffers by their invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => oHS m c t
    | ⟨5, _⟩ => oHC m c t
    | ⟨6, _⟩ => oXC m c t
    | ⟨7, _⟩ => oXS m c t
  Φ n := phi m c n.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-! What the body leaves in each buffer, and what it finds there. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oHS m c t := by dsimp only [dats]
theorem after0_5 (c : Dev nD) (t : Fin cfg0.N) : (dats m 0 c).after 5 t = oHC m c t := by dsimp only [dats]
theorem after0_6 (c : Dev nD) (t : Fin cfg0.N) : (dats m 0 c).after 6 t = oXC m c t := by dsimp only [dats]
theorem after0_7 (c : Dev nD) (t : Fin cfg0.N) : (dats m 0 c).after 7 t = oXS m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! Where each output is idle, where it is written back, and where its buffer is fresh. -/
theorem idle4 : ∀ t : Fin cfg0.N, cfg0.idle 4 (cfg0.grid.coords t) = !(t.val % 9 == 8) := (by decide +kernel : ∀ t : Fin grid0.N, idle0 4 (grid0.coords t) = !(t.val % 9 == 8))
theorem idle5 : ∀ t : Fin cfg0.N, cfg0.idle 5 (cfg0.grid.coords t) = !(t.val % 9 == 8) := (by decide +kernel : ∀ t : Fin grid0.N, idle0 5 (grid0.coords t) = !(t.val % 9 == 8))
theorem idle6 : ∀ t : Fin cfg0.N, cfg0.idle 6 (cfg0.grid.coords t) = !(t.val % 9 == 0) := (by decide +kernel : ∀ t : Fin grid0.N, idle0 6 (grid0.coords t) = !(t.val % 9 == 0))
theorem idle7 : ∀ t : Fin cfg0.N, cfg0.idle 7 (cfg0.grid.coords t) = !(t.val % 9 == 0) := (by decide +kernel : ∀ t : Fin grid0.N, idle0 7 (grid0.coords t) = !(t.val % 9 == 0))
theorem fl4 (t : Fin cfg0.N) (h : t.val % 9 ≠ 8) : (cfg0.win 4).flush t = false := Bool.eq_false_iff.mpr fun e => h ((flush0_4 t).mp e)
theorem fl5 (t : Fin cfg0.N) (h : t.val % 9 ≠ 8) : (cfg0.win 5).flush t = false := Bool.eq_false_iff.mpr fun e => h ((flush0_5 t).mp e)
theorem fl6 (t : Fin cfg0.N) (h : t.val % 9 ≠ 8) : (cfg0.win 6).flush t = false := Bool.eq_false_iff.mpr fun e => h ((flush0_6 t).mp e)
theorem fl7 (t : Fin cfg0.N) (h : t.val % 9 ≠ 8) : (cfg0.win 7).flush t = false := Bool.eq_false_iff.mpr fun e => h ((flush0_7 t).mp e)

theorem fresh6 : ∀ n, n ≤ cfg0.N → cfg0.fresh 6 n = (n % 9 == 0) :=
  cfg0.fresh_tab 6 (fun n => n % 9 == 0) rfl fun t => by
    rw [idle6 t]
    by_cases h8 : t.val % 9 = 8
    · rw [(flush0_6 t).mpr h8, Bool.true_or]
      show ((t.val + 1) % 9 == 0) = true
      rw [beq_iff_eq]; omega
    · rw [fl6 t h8, Bool.false_or]
      show ((t.val + 1) % 9 == 0) = (!(t.val % 9 == 0) && (t.val % 9 == 0))
      rw [Bool.not_and_self, beq_eq_false_iff_ne]; omega

theorem fresh7 : ∀ n, n ≤ cfg0.N → cfg0.fresh 7 n = (n % 9 == 0) :=
  cfg0.fresh_tab 7 (fun n => n % 9 == 0) rfl fun t => by
    rw [idle7 t]
    by_cases h8 : t.val % 9 = 8
    · rw [(flush0_7 t).mpr h8, Bool.true_or]
      show ((t.val + 1) % 9 == 0) = true
      rw [beq_iff_eq]; omega
    · rw [fl7 t h8, Bool.false_or]
      show ((t.val + 1) % 9 == 0) = (!(t.val % 9 == 0) && (t.val % 9 == 0))
      rw [Bool.not_and_self, beq_eq_false_iff_ne]; omega

/-- Past the first column tile of a row block output 6's buffer holds what that tile left. -/
theorem before0_6 (c : Dev nD) (t : Fin cfg0.N) (h0 : t.val % 9 ≠ 0) (d) : (dats m 0 c).before 6 t d = oXC m c t := by
  have hprev : ∀ (t : Fin cfg0.N) (h : t.val % 9 ≠ 0), oXC m c ⟨t.val - 1, by omega⟩ = oXC m c t := fun t h => by
    have e : blkOf ⟨t.val - 1, by omega⟩ = blkOf t := Fin.ext (by show (t.val - 1) / 9 = t.val / 9; omega)
    unfold oXC; rw [e]
  refine ((dats m 0 c).before_out_traj 6 rfl (fun _ _ => rfl) (fun t ht hi hf => ?_) t.val t rfl d).trans ?_
  · rw [after0_6, after0_6]
    refine (hprev t ?_).symm
    rw [fresh6 t.val t.isLt.le, beq_eq_false_iff_ne] at hf
    exact hf
  · rw [fresh6 t.val t.isLt.le, if_neg (by rw [beq_iff_eq]; exact h0), after0_6]
    exact hprev t h0

/-- Past the first column tile of a row block output 7's buffer holds what that tile left. -/
theorem before0_7 (c : Dev nD) (t : Fin cfg0.N) (h0 : t.val % 9 ≠ 0) (d) : (dats m 0 c).before 7 t d = oXS m c t := by
  have hprev : ∀ (t : Fin cfg0.N) (h : t.val % 9 ≠ 0), oXS m c ⟨t.val - 1, by omega⟩ = oXS m c t := fun t h => by
    have e : blkOf ⟨t.val - 1, by omega⟩ = blkOf t := Fin.ext (by show (t.val - 1) / 9 = t.val / 9; omega)
    unfold oXS; rw [e]
  refine ((dats m 0 c).before_out_traj 7 rfl (fun _ _ => rfl) (fun t ht hi hf => ?_) t.val t rfl d).trans ?_
  · rw [after0_7, after0_7]
    refine (hprev t ?_).symm
    rw [fresh7 t.val t.isLt.le, beq_eq_false_iff_ne] at hf
    exact hf
  · rw [fresh7 t.val t.isLt.le, if_neg (by rw [beq_iff_eq]; exact h0), after0_7]
    exact hprev t h0

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem Phi_cast (c : Dev nD) (t : Fin cfg0.N) : (dats m 0 c).Φ t.castSucc = phi m c t.val := by
  dsimp only [dats]; exact congrArg (phi m c) (Fin.val_castSucc t)
theorem Phi_succ (c : Dev nD) (t : Fin cfg0.N) : (dats m 0 c).Φ t.succ = phi m c (t.val + 1) := by
  dsimp only [dats]; exact congrArg (phi m c) (Fin.val_succ t)

theorem lv0 (c : Dev nD) (t : Fin cfg0.N) : (dats m 0 c).leavesExact 0 t = owns (c : Thread nD τ) (ms0_0 t) fullShare ((dats m 0 c).after 0 t) := by
  unfold Dat.leavesExact; rw [liveAt0_0 t]
theorem lv1 (c : Dev nD) (t : Fin cfg0.N) : (dats m 0 c).leavesExact 1 t = owns (c : Thread nD τ) (ms0_1 t) fullShare ((dats m 0 c).after 1 t) := by
  unfold Dat.leavesExact; rw [liveAt0_1 t]
theorem lv2 (c : Dev nD) (t : Fin cfg0.N) : (dats m 0 c).leavesExact 2 t = owns (c : Thread nD τ) (ms0_2 t) fullShare ((dats m 0 c).after 2 t) := by
  unfold Dat.leavesExact; rw [liveAt0_2 t]
theorem lv3 (c : Dev nD) (t : Fin cfg0.N) : (dats m 0 c).leavesExact 3 t = owns (c : Thread nD τ) (ms0_3 t) fullShare ((dats m 0 c).after 3 t) := by
  unfold Dat.leavesExact; rw [liveAt0_3 t]
theorem lvIdle4 (c : Dev nD) (t : Fin cfg0.N) (h : t.val % 9 ≠ 8) (h8 : t.val % 9 ≠ 8) :
    (dats m 0 c).leavesExact 4 t = iprop(∃ d, owns (c : Thread nD τ) (ms0_4 t) fullShare ((dats m 0 c).before 4 t d)) :=
  (dats m 0 c).leavesExact_idle 4 t (by rw [idle4 t, beq_eq_false_iff_ne.mpr h]; rfl) (fl4 t h8)
theorem lvLive4 (c : Dev nD) (t : Fin cfg0.N) (h : t.val % 9 = 8) :
    (dats m 0 c).leavesExact 4 t = owns (c : Thread nD τ) (ms0_4 t) fullShare ((dats m 0 c).after 4 t) := by
  have hi : cfg0.idle 4 (cfg0.grid.coords t) = false := by rw [idle4 t, beq_iff_eq.mpr h]; rfl
  unfold Dat.leavesExact; rw [hi]
theorem lvIdle5 (c : Dev nD) (t : Fin cfg0.N) (h : t.val % 9 ≠ 8) (h8 : t.val % 9 ≠ 8) :
    (dats m 0 c).leavesExact 5 t = iprop(∃ d, owns (c : Thread nD τ) (ms0_5 t) fullShare ((dats m 0 c).before 5 t d)) :=
  (dats m 0 c).leavesExact_idle 5 t (by rw [idle5 t, beq_eq_false_iff_ne.mpr h]; rfl) (fl5 t h8)
theorem lvLive5 (c : Dev nD) (t : Fin cfg0.N) (h : t.val % 9 = 8) :
    (dats m 0 c).leavesExact 5 t = owns (c : Thread nD τ) (ms0_5 t) fullShare ((dats m 0 c).after 5 t) := by
  have hi : cfg0.idle 5 (cfg0.grid.coords t) = false := by rw [idle5 t, beq_iff_eq.mpr h]; rfl
  unfold Dat.leavesExact; rw [hi]
theorem lvIdle6 (c : Dev nD) (t : Fin cfg0.N) (h : t.val % 9 ≠ 0) (h8 : t.val % 9 ≠ 8) :
    (dats m 0 c).leavesExact 6 t = iprop(∃ d, owns (c : Thread nD τ) (ms0_6 t) fullShare ((dats m 0 c).before 6 t d)) :=
  (dats m 0 c).leavesExact_idle 6 t (by rw [idle6 t, beq_eq_false_iff_ne.mpr h]; rfl) (fl6 t h8)
theorem lvLive6 (c : Dev nD) (t : Fin cfg0.N) (h : t.val % 9 = 0) :
    (dats m 0 c).leavesExact 6 t = owns (c : Thread nD τ) (ms0_6 t) fullShare ((dats m 0 c).after 6 t) := by
  have hi : cfg0.idle 6 (cfg0.grid.coords t) = false := by rw [idle6 t, beq_iff_eq.mpr h]; rfl
  unfold Dat.leavesExact; rw [hi]
theorem lvLast6 (c : Dev nD) (t : Fin cfg0.N) (h : t.val % 9 = 8) :
    (dats m 0 c).leavesExact 6 t = owns (c : Thread nD τ) (ms0_6 t) fullShare ((dats m 0 c).after 6 t) := by
  have hi : cfg0.idle 6 (cfg0.grid.coords t) = true := by rw [idle6 t, beq_eq_false_iff_ne.mpr (by omega)]; rfl
  unfold Dat.leavesExact; rw [hi, (flush0_6 t).mpr h]
theorem lvIdle7 (c : Dev nD) (t : Fin cfg0.N) (h : t.val % 9 ≠ 0) (h8 : t.val % 9 ≠ 8) :
    (dats m 0 c).leavesExact 7 t = iprop(∃ d, owns (c : Thread nD τ) (ms0_7 t) fullShare ((dats m 0 c).before 7 t d)) :=
  (dats m 0 c).leavesExact_idle 7 t (by rw [idle7 t, beq_eq_false_iff_ne.mpr h]; rfl) (fl7 t h8)
theorem lvLive7 (c : Dev nD) (t : Fin cfg0.N) (h : t.val % 9 = 0) :
    (dats m 0 c).leavesExact 7 t = owns (c : Thread nD τ) (ms0_7 t) fullShare ((dats m 0 c).after 7 t) := by
  have hi : cfg0.idle 7 (cfg0.grid.coords t) = false := by rw [idle7 t, beq_iff_eq.mpr h]; rfl
  unfold Dat.leavesExact; rw [hi]
theorem lvLast7 (c : Dev nD) (t : Fin cfg0.N) (h : t.val % 9 = 8) :
    (dats m 0 c).leavesExact 7 t = owns (c : Thread nD τ) (ms0_7 t) fullShare ((dats m 0 c).after 7 t) := by
  have hi : cfg0.idle 7 (cfg0.grid.coords t) = true := by rw [idle7 t, beq_eq_false_iff_ne.mpr (by omega)]; rfl
  unfold Dat.leavesExact; rw [hi, (flush0_7 t).mpr h]

theorem zero124 (y : S512x128.Idx) : k0_pay129 (F := Ideal) y = 0 := bits_zero

/-- The scales the last column tile writes. -/
theorem hs_eq (c : Dev nD) (t : Fin cfg0.N) (h : FVec Ideal S512x6912 .f32) (a c' : FVec Ideal S512x128 .f32) (hI : Inv (aX m c) (aW m c) (aS m c) (blkOf t) 9 h a c') :
    k0_pay5 (F := Ideal) a = oHS m c t := by
  funext y
  obtain ⟨r, l, rfl⟩ : ∃ (r : Fin 512) (l : Fin 1), y = ix2 r l := ⟨y 0, y 1, eq_ix2 y⟩
  obtain rfl : l = 0 := Subsingleton.elim _ _
  exact last_scale (blkOf t) h a c' hI r

/-- The codes the last column tile writes. -/
theorem hc_eq (c : Dev nD) (t : Fin cfg0.N) (h : FVec Ideal S512x6912 .f32) (a c' : FVec Ideal S512x128 .f32) (hI : Inv (aX m c) (aW m c) (aS m c) (blkOf t) 9 h a c') :
    View.canon (Val := Elt Ideal) (epC (F := Ideal) a h) = oHC m c t := by
  funext y
  obtain ⟨r, l, rfl⟩ : ∃ (r : Fin 512) (l : Fin 6848), y = ix2 r l := ⟨y 0, y 1, eq_ix2 y⟩
  exact last_code (blkOf t) h a c' hI r l

set_option maxHeartbeats 1600000 in
/-- The body at the first column tile of a row block. -/
theorem sound_A (c : Dev nD) (t : Fin cfg0.N) (h0 : t.val % 9 = 0) :
    bodyPre m c t ⊢ wp frame (wpE (defs₀ (F := Ideal)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl, Phi_cast, Phi_succ,
    lv0, lv1, lv2, lv3, lvIdle4 m c t (by omega) (by omega), lvIdle5 m c t (by omega) (by omega), lvLive6 m c t h0, lvLive7 m c t h0, after0_0, after0_1, after0_2, after0_3, after0_6, after0_7]
  unfold phi
  iintro ⟨⟨⟨%h, %a, %c1, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hI := inv_point m c t h (k0_pay130 (F := Ideal)) (k0_pay129 (F := Ideal)) (by rw [h0]; exact inv_zero _ _ _ _ _ _ _ fun y => zero124 y)
  rw [← qx_eq m c t, ← qs_eq m c t] at hI
  unfold bodyAt0
  iapply (body_A (F := Ideal) c (grid0.coords t) _ _ _ _ _ _ _ _ _ _ _ _ _ _ _ _ _ _ _ _ _ _ ((hcond0_0 t).mpr h0) (fun h => absurd ((hcond0_1 t).mp h) (by omega)) (iblk m c 0 t) (X0_1 m c t) (iblk m c 2 t) (iblk m c 3 t) ((dats m 0 c).before 4 t d4) ((dats m 0 c).before 5 t d5) h Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexists _; iexact HS1
  isplitl [HS2]; · iexists _; iexact HS2
  iintro ⟨H0, H1, H2, H3, H4, H5, H6, H7, HS0, HS1, HS2⟩
  isplitl [HS0 HS1 HS2 Hg]
  · isplitl [HS0 HS1 HS2]
    · iexists _; iexists _; iexists _
      isplitr
      swap
      · isplitl [HS0]; · iexact HS0
        isplitl [HS1]; · iexact HS1
        iexact HS2
      ipureintro
      exact known_next m c t (by omega) _ _ _ hI
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · rw [← qx_eq m c t]; iexact H6
  rw [← qs_eq m c t]; iexact H7

set_option maxHeartbeats 1600000 in
/-- The body at an inner column tile of a row block. -/
theorem sound_B (c : Dev nD) (t : Fin cfg0.N) (h0 : t.val % 9 ≠ 0) (h8 : t.val % 9 ≠ 8) :
    bodyPre m c t ⊢ wp frame (wpE (defs₀ (F := Ideal)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl, Phi_cast, Phi_succ,
    lv0, lv1, lv2, lv3, lvIdle4 m c t h8 h8, lvIdle5 m c t h8 h8, lvIdle6 m c t h0 h8, lvIdle7 m c t h0 h8, after0_0, after0_1, after0_2, after0_3]
  unfold phi
  iintro ⟨⟨⟨%h, %a, %c1, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hI := inv_point m c t h c1 a (hK h0 (blkOf t) rfl)
  have e6 := before0_6 m c t h0 d6
  have e7 := before0_7 m c t h0 d7
  unfold bodyAt0
  iapply (body_B (F := Ideal) c (grid0.coords t) _ _ _ _ _ _ _ _ _ _ _ _ _ _ _ _ _ _ _ _ _ _ (fun h => h0 ((hcond0_0 t).mp h)) (fun h => h8 ((hcond0_1 t).mp h)) (iblk m c 0 t) (X0_1 m c t) (iblk m c 2 t) (iblk m c 3 t) ((dats m 0 c).before 4 t d4) ((dats m 0 c).before 5 t d5) (oXC m c t) (oXS m c t) h a c1 Set.univ _)
  isplitl [H0]; · iexact H0
  isplitl [H1]; · iexact H1
  isplitl [H2]; · iexact H2
  isplitl [H3]; · iexact H3
  isplitl [H4]; · iexact H4
  isplitl [H5]; · iexact H5
  isplitl [H6]; · rw [← e6]; iexact H6
  isplitl [H7]; · rw [← e7]; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · iexists _; iexists _; iexists _
      isplitr
      swap
      · isplitl [HS0]; · iexact HS0
        isplitl [HS1]; · iexact HS1
        iexact HS2
      ipureintro
      exact known_next m c t h8 _ _ _ hI
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists d6; rw [e6]; iexact H6
  iexists d7; rw [e7]; iexact H7

set_option maxHeartbeats 1600000 in
/-- The body at the last column tile of a row block. -/
theorem sound_C (c : Dev nD) (t : Fin cfg0.N) (h8 : t.val % 9 = 8) :
    bodyPre m c t ⊢ wp frame (wpE (defs₀ (F := Ideal)) Variants.none c none) Set.univ (bodyAt0 t) (fun _ => bodyPost m c t) := by
  unfold bodyPre bodyPost
  simp only [before0_0, before0_1, before0_2, before0_3]
  rw [show (dats m 0 c).owesAt () t.succ = (dats m 0 c).owesAt () t.castSucc from rfl, Phi_cast, Phi_succ,
    lv0, lv1, lv2, lv3, lvLive4 m c t h8, lvLive5 m c t h8, lvLast6 m c t h8, lvLast7 m c t h8, after0_0, after0_1, after0_2, after0_3, after0_4, after0_5, after0_6, after0_7]
  unfold phi
  iintro ⟨⟨⟨%h, %a, %c1, %hK, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hI := inv_point m c t h c1 a (hK (by omega) (blkOf t) rfl)
  rw [before0_6 m c t (by omega) d6, before0_7 m c t (by omega) d7]
  unfold bodyAt0
  iapply (body_C (F := Ideal) c (grid0.coords t) _ _ _ _ _ _ _ _ _ _ _ _ _ _ _ _ _ _ _ _ _ _ (fun h => absurd ((hcond0_0 t).mp h) (by omega)) ((hcond0_1 t).mpr h8) (iblk m c 0 t) (X0_1 m c t) (iblk m c 2 t) (iblk m c 3 t) (oXC m c t) (oXS m c t) h a c1 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · iexists _; iexists _; iexists _
      isplitr
      swap
      · isplitl [HS0]; · iexact HS0
        isplitl [HS1]; · iexact HS1
        iexact HS2
      ipureintro
      exact known_first m c _ (by omega) _ _ _
    iexact Hg
  isplitl [Ho]; · iexact Ho
  isplitl [H0]; · iexact H0
  isplitl [H1]; · iexact H1
  isplitl [H2]; · iexact H2
  isplitl [H3]; · iexact H3
  isplitl [H4]; · rw [← hs_eq m c t _ _ _ (by rw [h8] at hI; exact hI)]; iexact H4
  isplitl [H5]; · rw [← hc_eq m c t _ _ _ (by rw [h8] at hI; exact hI)]; iexact H5
  isplitl [H6]; · iexact H6
  iexact H7

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 9 = 0
  · exact sound_A m c t h0
  · by_cases h8 : t.val % 9 = 8
    · exact sound_C m c t h8
    · exact sound_B m c t h0 h8

/-- The pipeline library's body obligation, at every point. -/
theorem body_obligation (c : Dev nD) : BodyObligation (dats m 0 c) (defs₀ (F := Ideal)) Variants.none () Set.univ := fun t => by
  rw [bigSep_W0, bigSep_W0, Cert.KernelIdeal.Body.defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = phi m c 0 from by dsimp only [dats]; rfl, PhiA0_eq]
  unfold phi
  iintro ⟨⟨⟨%h, HS0⟩, ⟨%a, HS1⟩, ⟨%c1, HS2⟩⟩, Hg⟩
  isplitl [HS0 HS1 HS2]
  · iexists h; iexists a; iexists c1
    isplitr
    swap
    · isplitl [HS0]; · iexact HS0
      isplitl [HS1]; · iexact HS1
      iexact HS2
    ipureintro
    exact known_first m c 0 rfl _ _ _
  iexact Hg

/-- The invariant after the last point is what the region gives back. -/
theorem hout (c : Dev nD) : (dats m 0 c).Φ (Fin.last cfg0.N) ⊢ Pipeline.ΦA spec0 c := by
  rw [show (dats m 0 c).Φ (Fin.last cfg0.N) = phi m c (Fin.last cfg0.N).val from by dsimp only [dats], PhiA0_eq]
  unfold phi
  iintro ⟨⟨%h, %a, %c1, %hK, HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The launch: every run ends with each windowed array at what the points wrote back. -/
theorem run_main : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Val
-- ==== Proof.SpecOut.lean ====
/- The four result arrays, as functions of the entries of the three operands. -/
module

public import proofs.«01_k».proof.Proof.Spec

@[expose] public section

set_option maxRecDepth 16384

noncomputable section

namespace Cert.Spec

open Idealize.ShloMosaic Cert.Quant

variable (X : Fin 12288 → Fin 4096 → EReal) (W : Fin 4096 → Fin 13696 → EReal) (S : Fin 13696 → EReal)

/-- The scales of the hidden values. -/
def gHS : FVec Ideal ⟨2, ![12288, 1]⟩ .f32 := fun y => sH X W S ⟨(y 0).val, (y 0).isLt⟩
/-- The codes of the hidden values. -/
def gHC : FVec Ideal ⟨2, ![12288, 6848]⟩ .fp8e4m3 := fun y => cH X W S ⟨(y 0).val, (y 0).isLt⟩ ⟨(y 1).val, (y 1).isLt⟩
/-- The codes of the activations. -/
def gXC : FVec Ideal ⟨2, ![12288, 4096]⟩ .fp8e4m3 := fun y => cX X ⟨(y 0).val, (y 0).isLt⟩ ⟨(y 1).val, (y 1).isLt⟩
/-- The scales of the activations. -/
def gXS : FVec Ideal ⟨2, ![12288, 1]⟩ .f32 := fun y => sX X ⟨(y 0).val, (y 0).isLt⟩

end Cert.Spec
-- ==== Proof.KernelIdealFinal.lean ====
/- The four result arrays of the kernel after the run, over the extended reals. -/
module

public import proofs.«01_k».proof.Proof.KernelIdealExact
public import proofs.«01_k».proof.Proof.SpecOut

@[expose] public section

set_option maxRecDepth 16384

noncomputable section

namespace Cert.KernelIdeal.Val

open Cert.KernelIdeal Cert.KernelIdeal.Gen Cert.Quant Cert.Spec
open Idealize.ShloMosaic Idealize.ShloMosaic.TcCoe Idealize.ShloMosaic.Tactic

variable (m : (ℓ : Loc nD τ sig) → Buf (Elt Ideal) ℓ)

/-- The scales of the hidden values. -/
theorem final4 (c : Dev nD) : (dats m 0 c).arrAt 4 (cfgs 0).N = gHS (aX m c) (aW m c) (aS m c) := by
  refine (dats m 0 c).arrAt_eq_of_covers 4 _ (by decide +kernel) fun t hf y => ?_
  blk_simp
  rw [after0_4]
  unfold oHS gHS row blkOf
  refine congrArg (sH (aX m c) (aW m c) (aS m c)) (Fin.ext ?_)
  blk_simp [idx t]
  exact congrArg (· + (y 0).val) (Nat.mul_comm _ _)

/-- The codes of the hidden values. -/
theorem final5 (c : Dev nD) : (dats m 0 c).arrAt 5 (cfgs 0).N = gHC (aX m c) (aW m c) (aS m c) := by
  refine (dats m 0 c).arrAt_eq_of_covers 5 _ (by decide +kernel) fun t hf y => ?_
  blk_simp
  rw [after0_5]
  unfold oHC gHC row blkOf
  refine congrArg₂ (cH (aX m c) (aW m c) (aS m c)) (Fin.ext ?_) (Fin.ext ?_)
  · blk_simp [idx t]
    exact congrArg (· + (y 0).val) (Nat.mul_comm _ _)
  · blk_simp [idx t]

/-- The codes of the activations. -/
theorem final6 (c : Dev nD) : (dats m 0 c).arrAt 6 (cfgs 0).N = gXC (aX m c) := by
  refine (dats m 0 c).arrAt_eq_of_covers 6 _ (by decide +kernel) fun t hf y => ?_
  blk_simp
  rw [after0_6]
  unfold oXC gXC row blkOf
  refine congrArg₂ (cX (aX m c)) (Fin.ext ?_) (Fin.ext ?_)
  · blk_simp [idx t]
    exact congrArg (· + (y 0).val) (Nat.mul_comm _ _)
  · blk_simp [idx t]

/-- The scales of the activations. -/
theorem final7 (c : Dev nD) : (dats m 0 c).arrAt 7 (cfgs 0).N = gXS (aX m c) := by
  refine (dats m 0 c).arrAt_eq_of_covers 7 _ (by decide +kernel) fun t hf y => ?_
  blk_simp
  rw [after0_7]
  unfold oXS gXS row blkOf
  refine congrArg (sX (aX m c)) (Fin.ext ?_)
  blk_simp [idx t]
  exact congrArg (· + (y 0).val) (Nat.mul_comm _ _)

end Cert.KernelIdeal.Val
-- ==== Proof.RefVal.lean ====
/- What the reference's body computes, entry by entry, over the extended reals. -/
module

public import proofs.«01_k».proof.Proof.Spec
public import proofs.«01_k».proof.Proof.Gen.ReferenceIdeal.Frame
public import Idealize.ShloMosaic.Lib.Pointwise

@[expose] public section

set_option maxRecDepth 16384

noncomputable section

namespace Cert.ReferenceIdeal.Val

open Cert.ReferenceIdeal Cert.ReferenceIdeal.Gen Cert.Quant Cert.Spec
open Idealize.ShloMosaic Idealize.ShloMosaic.TcCoe Idealize.ShloMosaic.Tactic

section Generic
variable {F : FTy → Type} [FloatOps F]
/-- The reduction inside the exponent of the activations. -/
def red3 (v0 : Vec F S12288x4096 .bf16) : FVec F S12288x1 .f32 :=
  shapeCast S12288x1 (multiReduction .maximumf [1] S12288 (absf (k0_pay2 (F := F) v0)) 0xFF800000#32 reduces_S12288x4096_S12288 (.inl rfl) rfl) shapeCasts_S12288_S12288x1
/-- The reduction inside the exponent of the hidden values. -/
def red9 (v41 v42 : FVec F S12288x13696 .f32) (v44 : Vec F S1x13696 .f32) : FVec F S12288x1 .f32 :=
  shapeCast S12288x1 (multiReduction .maximumf [1] S12288 (absf (k0_pay8 (F := F) v41 v42 v44)) 0xFF800000#32 reduces_S12288x6848_S12288 (.inl rfl) rfl) shapeCasts_S12288_S12288x1
theorem pay3_eq (v0 : Vec F S12288x4096 .bf16) (y : S12288x1.Idx) : k0_pay3 (F := F) v0 y = refExp (red3 v0 y) := rfl
theorem pay9_eq (v41 v42 : FVec F S12288x13696 .f32) (v44 : Vec F S1x13696 .f32) (y : S12288x1.Idx) : k0_pay9 (F := F) v41 v42 v44 y = refExp (red9 v41 v42 v44 y) := rfl
theorem pay4_eq (v0 : Vec F S12288x4096 .bf16) (y : S12288x1.Idx) : k0_pay4 (F := F) v0 y = scl (k0_pay3 v0 y) := rfl
theorem pay10_eq (v41 v42 : FVec F S12288x13696 .f32) (v44 : Vec F S1x13696 .f32) (y : S12288x1.Idx) : k0_pay10 (F := F) v41 v42 v44 y = scl (k0_pay9 v41 v42 v44 y) := rfl
end Generic

variable (x0 : FVec Ideal S12288x4096 .bf16) (x1 : FVec Ideal S4096x13696 .fp8e4m3) (x2 : FVec Ideal S1x13696 .f32)

/-- The entries of the operands. -/
def eX0 (R : Fin 12288) (k : Fin 4096) : EReal := x0 (ix2 R k)
def eX1 (k : Fin 4096) (c : Fin 13696) : EReal := x1 (ix2 k c)
def eX2 (c : Fin 13696) : EReal := x2 (ix2 0 c)

theorem pay3_apply (R : Fin 12288) : k0_pay3 (F := Ideal) x0 (ix2 R 0) = eX (eX0 x0) R := by
  rw [pay3_eq]; unfold eX
  refine congrArg (refExp (F := Ideal)) ?_
  pointwise [red3, k0_pay2]
  rw [bits_bot]; rfl

theorem pay4_apply (R : Fin 12288) : k0_pay4 (F := Ideal) x0 (ix2 R 0) = sX (eX0 x0) R := by
  rw [pay4_eq, pay3_apply]; rfl

theorem pay5_apply (R : Fin 12288) (k : Fin 4096) : k0_pay5 (F := Ideal) x0 (ix2 R k) = cX (eX0 x0) R k := by
  unfold cX; rw [← pay3_apply]
  generalize hz : k0_pay3 (F := Ideal) x0 = z
  pointwise [k0_pay5, k0_pay2, hz]
  rfl

theorem pay8_apply (R : Fin 12288) (c : Fin 6848) :
    k0_pay8 (F := Ideal) (k0_pay6 x0 x1) (k0_pay7 x0) x2 (ix2 R c) = hid (eX0 x0) (eX1 x1) (eX2 x2) R c := by
  pointwise [k0_pay8, k0_pay6, k0_pay7, pay5_apply, pay4_apply]
  rfl

theorem pay9_apply (R : Fin 12288) :
    k0_pay9 (F := Ideal) (k0_pay6 x0 x1) (k0_pay7 x0) x2 (ix2 R 0) = eH (eX0 x0) (eX1 x1) (eX2 x2) R := by
  rw [pay9_eq]; unfold eH
  refine congrArg (refExp (F := Ideal)) ?_
  pointwise [red9, pay8_apply]
  rw [bits_bot]; rfl

theorem pay10_apply (R : Fin 12288) :
    k0_pay10 (F := Ideal) (k0_pay6 x0 x1) (k0_pay7 x0) x2 (ix2 R 0) = sH (eX0 x0) (eX1 x1) (eX2 x2) R := by
  rw [pay10_eq, pay9_apply]; rfl

theorem pay11_apply (R : Fin 12288) (c : Fin 6848) :
    k0_pay1 (F := Ideal) (k0_pay11 (k0_pay6 x0 x1) (k0_pay7 x0) x2) (ix2 R c) = cH (eX0 x0) (eX1 x1) (eX2 x2) R c := by
  unfold cH; rw [← pay9_apply]
  generalize hz : k0_pay9 (F := Ideal) (k0_pay6 x0 x1) (k0_pay7 x0) x2 = z
  pointwise [k0_pay1, k0_pay11, pay8_apply, hz]
  rfl

end Cert.ReferenceIdeal.Val
-- ==== Proof.RefFinal.lean ====
/- The four result arrays of the reference after the run, over the extended reals. -/
module

public import proofs.«01_k».proof.Proof.RefVal
public import proofs.«01_k».proof.Proof.SpecOut
public import Idealize.ShloMosaic.Lib.Pipeline.ValueKit
public import Idealize.ShloMosaic.Lib.Claim

@[expose] public section

set_option maxRecDepth 16384

noncomputable section

namespace Cert.ReferenceIdeal.Val

open Cert.ReferenceIdeal Cert.ReferenceIdeal.Gen Cert.Quant Cert.Spec
open Idealize.ShloMosaic Idealize.ShloMosaic.TcCoe Idealize.ShloMosaic.Tactic

variable (m : (ℓ : Loc nD τ sig) → Buf (Elt Ideal) ℓ)

/-- The activations, one row per token. -/
def bX (c : Dev nD) (R : Fin 12288) (k : Fin 4096) : EReal := V m c main_v0 (ix2 R k)
/-- The weights. -/
def bW (c : Dev nD) (k : Fin 4096) (j : Fin 13696) : EReal := V m c main_arg1 (ix2 k j)
/-- The weights' scales. -/
def bS (c : Dev nD) (j : Fin 13696) : EReal := V m c main_v1 (ix2 0 j)

section Loads
variable {F : FTy → Type} [FloatOps F] (x0 : Vec F S12288x4096 .bf16) (x1 : Vec F S4096x13696 .fp8e4m3) (x2 : Vec F S1x13696 .f32)
theorem hz : ∀ a : Fin 2, (![0, 0] : Fin 2 → ℕ) a = 0 := by decide
theorem p12 : k0_pay12 x0 x1 x2 = k0_pay6 x0 x1 := by
  have h0 : View.ld x0 r0_0 = x0 := View.ld_unit_lit _ _ hz
  have h1 : View.ld x1 r0_1 = x1 := View.ld_unit_lit _ _ hz
  unfold k0_pay12
  rw [h0, h1]
theorem p13 : k0_pay13 x0 x1 x2 = k0_pay7 x0 := by
  have h0 : View.ld x0 r0_0 = x0 := View.ld_unit_lit _ _ hz
  unfold k0_pay13
  rw [h0]
end Loads

section Pure
variable (x0 : FVec Ideal S12288x4096 .bf16) (x1 : FVec Ideal S4096x13696 .fp8e4m3) (x2 : FVec Ideal S1x13696 .f32)

theorem g3 : k0_pay10 (F := Ideal) (k0_pay6 x0 x1) (k0_pay7 x0) x2 = gHS (eX0 x0) (eX1 x1) (eX2 x2) := by
  funext y
  obtain ⟨R, l, rfl⟩ : ∃ (R : Fin 12288) (l : Fin 1), y = ix2 R l := ⟨y 0, y 1, eq_ix2 y⟩
  obtain rfl : l = 0 := Subsingleton.elim _ _
  exact pay10_apply x0 x1 x2 R
theorem g4 : k0_pay1 (F := Ideal) (k0_pay11 (k0_pay6 x0 x1) (k0_pay7 x0) x2) = gHC (eX0 x0) (eX1 x1) (eX2 x2) := by
  funext y
  obtain ⟨R, l, rfl⟩ : ∃ (R : Fin 12288) (l : Fin 6848), y = ix2 R l := ⟨y 0, y 1, eq_ix2 y⟩
  exact pay11_apply x0 x1 x2 R l
theorem g5 : k0_pay5 (F := Ideal) x0 = gXC (eX0 x0) := by
  funext y
  obtain ⟨R, l, rfl⟩ : ∃ (R : Fin 12288) (l : Fin 4096), y = ix2 R l := ⟨y 0, y 1, eq_ix2 y⟩
  exact pay5_apply x0 R l
theorem g6 : k0_pay4 (F := Ideal) x0 = gXS (eX0 x0) := by
  funext y
  obtain ⟨R, l, rfl⟩ : ∃ (R : Fin 12288) (l : Fin 1), y = ix2 R l := ⟨y 0, y 1, eq_ix2 y⟩
  obtain rfl : l = 0 := Subsingleton.elim _ _
  exact pay4_apply x0 R

end Pure

/-- The one point's blocks are the whole operands. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem e0 (c : Dev nD) : eX0 (iblk m c 0 t0_0) = bX m c := by
  funext R k; unfold eX0 bX
  blk_simp [iblk]
  blk_ext [idx t0_0]
theorem e1 (c : Dev nD) : eX1 (iblk m c 1 t0_0) = bW m c := by
  funext R k; unfold eX1 bW
  blk_simp [iblk]
  blk_ext [idx t0_0]
theorem e2 (c : Dev nD) : eX2 (iblk m c 2 t0_0) = bS m c := by
  funext k; unfold eX2 bS
  blk_simp [iblk]
  blk_ext [idx t0_0]

theorem final3 (c : Dev nD) : (dats m 0 c).arrAt 3 (cfgs 0).N = gHS (bX m c) (bW m c) (bS m c) := by
  refine (dats m 0 c).arrAt_eq_of_after_last 3 t0_0 (by decide +kernel) _ fun j => ?_
  blk_simp
  rw [after0_3]
  frame_out
  rw [p12, p13, g3, e0, e1, e2]
  blk_ext [idx t0_0]

theorem final4 (c : Dev nD) : (dats m 0 c).arrAt 4 (cfgs 0).N = gHC (bX m c) (bW m c) (bS m c) := by
  refine (dats m 0 c).arrAt_eq_of_after_last 4 t0_0 (by decide +kernel) _ fun j => ?_
  blk_simp
  rw [after0_4]
  frame_out
  rw [p12, p13, g4, e0, e1, e2]
  blk_ext [idx t0_0]

theorem final5 (c : Dev nD) : (dats m 0 c).arrAt 5 (cfgs 0).N = gXC (bX m c) := by
  refine (dats m 0 c).arrAt_eq_of_after_last 5 t0_0 (by decide +kernel) _ fun j => ?_
  blk_simp
  rw [after0_5]
  frame_out
  rw [g5, e0]
  blk_ext [idx t0_0]

theorem final6 (c : Dev nD) : (dats m 0 c).arrAt 6 (cfgs 0).N = gXS (bX m c) := by
  refine (dats m 0 c).arrAt_eq_of_after_last 6 t0_0 (by decide +kernel) _ fun j => ?_
  blk_simp
  rw [after0_6]
  frame_out
  rw [g6, e0]
  blk_ext [idx t0_0]

end Cert.ReferenceIdeal.Val
-- ==== Proof.Algebraic.lean ====
/- The kernel and the reference, over the extended reals, leave the same four results. -/
module

public import proofs.«01_k».proof.Defs
public import proofs.«01_k».proof.Proof.KernelIdealFinal
public import proofs.«01_k».proof.Proof.RefFinal
public import Idealize.ShloMosaic.Lib.Claim

@[expose] public section

set_option maxRecDepth 16384

noncomputable section

namespace Cert.Proof

open Cert.Quant Cert.Spec
open Idealize.ShloMosaic Idealize.ShloMosaic.TcCoe Idealize.ShloMosaic.Tactic Idealize.SL.Sem

/-- The kernel runs to completion, and the windows' arrays and the host's buffers end as its recurrence says. -/
theorem run_kernel (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩
      (fun r => Pipeline.FramePost KernelIdeal.cfgs (KernelIdeal.Val.dats m) 0 (KernelIdeal.Gen.V m) r) :=
  (θ_run KernelIdeal.defs _ _).mono (fun _ h => h.1) (KernelIdeal.Val.run_main m ρ)

section Inputs
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- From equal activations the two programs' kernels read equal activations. -/
theorem inX (h : m' (c.tc.loc ReferenceIdeal.main_arg0) = m (c.tc.loc KernelIdeal.main_arg0)) :
    ReferenceIdeal.Val.bX m' c = KernelIdeal.Val.aX m c := by
  funext R k
  unfold ReferenceIdeal.Val.bX KernelIdeal.Val.aX
  entry_read
  rw [h]
  rfl

/-- From equal weights the two programs' kernels read equal weights. -/
theorem inW (h : m' (c.tc.loc ReferenceIdeal.main_arg1) = m (c.tc.loc KernelIdeal.main_arg1)) :
    ReferenceIdeal.Val.bW m' c = KernelIdeal.Val.aW m c := by
  funext k j
  unfold ReferenceIdeal.Val.bW KernelIdeal.Val.aW
  rw [ReferenceIdeal.Gen.V_main_arg1, KernelIdeal.Gen.V_main_arg1, h]

/-- From equal scales the two programs' kernels read equal scales. -/
theorem inS (h : m' (c.tc.loc ReferenceIdeal.main_arg2) = m (c.tc.loc KernelIdeal.main_arg2)) :
    ReferenceIdeal.Val.bS m' c = KernelIdeal.Val.aS m c := by
  funext j
  unfold ReferenceIdeal.Val.bS KernelIdeal.Val.aS
  entry_read
  rw [h]
  rfl

end Inputs

/-- The value claim: from inputs that agree, the kernel and the reference, both over the extended reals, run to completion and
    leave equal hidden codes, equal hidden scales, equal activation codes and equal activation scales. -/
theorem algebraic : Cert.algebraic_KernelIdeal_ReferenceIdeal := by
  pair_intro
  · run_from run_kernel m g
  · run_from Cert.ReferenceIdeal.Gen.run_main m' g'
    · have hi := hagree c
      exact (ReferenceIdeal.Val.final3 m' c).trans (by
        rw [inX m m' c hi.1, inW m m' c hi.2.1, inS m m' c hi.2.2]
        exact (KernelIdeal.Val.final4 m c).symm)
    · have hi := hagree c
      exact (ReferenceIdeal.Val.final4 m' c).trans (by
        rw [inX m m' c hi.1, inW m m' c hi.2.1, inS m m' c hi.2.2]
        exact (KernelIdeal.Val.final5 m c).symm)
    · exact (ReferenceIdeal.Val.final5 m' c).trans (by
        rw [inX m m' c (hagree c).1]
        exact (KernelIdeal.Val.final6 m c).symm)
    · exact (ReferenceIdeal.Val.final6 m' c).trans (by
        rw [inX m m' c (hagree c).1]
        exact (KernelIdeal.Val.final7 m c).symm)

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.KernelIdealFrame
public import proofs.«01_k».proof.Proof.Algebraic

@[expose] public section

noncomputable section

namespace Cert.Proof

open Idealize.ShloMosaic Idealize.SL.Sem Cert.Kernel

/-- The three frames, that the idealization is the program's own text, and that over the extended reals the kernel and the
    reference leave the same four results. -/
theorem claim : Cert.Claim := ⟨Cert.Kernel.Gen.facts, Cert.KernelIdeal.Gen.facts, Cert.ReferenceIdeal.Gen.facts,
  fun m ρ _ => Cert.Kernel.Body.frame m ρ,
  fun m ρ _ => Cert.KernelIdeal.Body.frame m ρ,
  fun m ρ _ => Cert.ReferenceIdeal.Gen.frame m ρ,
  trivial,
  algebraic⟩

end Cert.Proof

end
